-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ranges_and_finite [hPre_ranges_and_finite : Cert.Pre_ranges_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ranges_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ranges_and_finite [hPre_ranges_and_finite : Cert.Pre_ranges_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranges_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_ranges_and_finite [hKernelIdeal : Cert.KernelIdeal.Facts] [hPre_ranges_and_finite : Cert.Pre_ranges_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ranges_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_ranges_and_finite [hReferenceIdeal : Cert.ReferenceIdeal.Facts] [hPre_ranges_and_finite : Cert.Pre_ranges_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ranges_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "inv_rmax" .f32 0x3E4CCCCD#32 ((1 / 5 : ℝ) : EReal)

def algebraic_KernelIdeal_ReferenceIdeal_pre_ranges_and_finite [hKernelIdeal : Cert.KernelIdeal.Facts] [hReferenceIdeal : Cert.ReferenceIdeal.Facts] [hPre_ranges_and_finite : Cert.Pre_ranges_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ranges_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v16_1)) (v3 : (c : Dev Cert.KernelIdeal.nD) → Buf (Elt Ideal) ((c.tc : Thread Cert.KernelIdeal.nD Cert.KernelIdeal.τ).loc Cert.KernelIdeal.main_v19)) (v4 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v16_1) = v2 c
          ∧ r.2.mem ((c.tc : Thread Cert.KernelIdeal.nD Cert.KernelIdeal.τ).loc Cert.KernelIdeal.main_v19) = v3 c
          ∧ r.2.mem ((c.tc : Thread Cert.KernelIdeal.nD Cert.KernelIdeal.τ).loc Cert.KernelIdeal.main_v20) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_v13) = v3 c
          ∧ r.2.mem ((c.tc : Thread Cert.ReferenceIdeal.nD Cert.ReferenceIdeal.τ).loc Cert.ReferenceIdeal.main_v14) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_ranges_and_finite : Cert.Pre_ranges_and_finite.Facts),
    quiescent_Kernel (hKernel := hKernel)
    ∧ quiescent_KernelIdeal (hKernelIdeal := hKernelIdeal)
    ∧ quiescent_KernelIdeal_pre_ranges_and_finite (hKernelIdeal := hKernelIdeal) (hPre_ranges_and_finite := hPre_ranges_and_finite)
    ∧ quiescent_ReferenceIdeal (hReferenceIdeal := hReferenceIdeal)
    ∧ quiescent_ReferenceIdeal_pre_ranges_and_finite (hReferenceIdeal := hReferenceIdeal) (hPre_ranges_and_finite := hPre_ranges_and_finite)
    ∧ preserves_Kernel_KernelIdeal
    ∧ algebraic_KernelIdeal_ReferenceIdeal_pre_ranges_and_finite (hKernelIdeal := hKernelIdeal) (hReferenceIdeal := hReferenceIdeal) (hPre_ranges_and_finite := hPre_ranges_and_finite)
-- ==== Pre_ranges_and_finite.lean ====
abbrev S10000x128 : Shape := ⟨2, ![10000, 128]⟩
abbrev S320000x128 : Shape := ⟨2, ![320000, 128]⟩
abbrev S2x320000 : Shape := ⟨2, ![2, 320000]⟩
abbrev S10000 : Shape := ⟨1, ![10000]⟩
abbrev S320000 : Shape := ⟨1, ![320000]⟩
abbrev S320000x16 : Shape := ⟨2, ![320000, 16]⟩
abbrev S320000x10 : Shape := ⟨2, ![320000, 10]⟩
abbrev S26x64 : Shape := ⟨2, ![26, 64]⟩
abbrev S64x256 : Shape := ⟨2, ![64, 256]⟩
abbrev S10x256 : Shape := ⟨2, ![10, 256]⟩
abbrev S128x256 : Shape := ⟨2, ![128, 256]⟩
abbrev S256 : Shape := ⟨1, ![256]⟩
abbrev S10x128 : Shape := ⟨2, ![10, 128]⟩
abbrev S55x128 : Shape := ⟨2, ![55, 128]⟩
abbrev S_ : Shape := ⟨0, ![]⟩

class Facts : Prop where
  bcast_S_S10000 : S_.BroadcastsInDim S10000 (![] : Fin 0 → Fin S10000.rank)
  reducesTo_S10000_S_d0 : S10000.ReducesTo [0] S_
  h_S_ : 0 < S_.numel
  bcast_S_S320000 : S_.BroadcastsInDim S320000 (![] : Fin 0 → Fin S320000.rank)
  reducesTo_S320000_S_d0 : S320000.ReducesTo [0] S_
  bcast_S_S320000x16 : S_.BroadcastsInDim S320000x16 (![] : Fin 0 → Fin S320000x16.rank)
  reducesTo_S320000x16_S_d0_1 : S320000x16.ReducesTo [0, 1] S_
  bcast_S_S320000x10 : S_.BroadcastsInDim S320000x10 (![] : Fin 0 → Fin S320000x10.rank)
  reducesTo_S320000x10_S_d0_1 : S320000x10.ReducesTo [0, 1] S_
  bcast_S_S26x64 : S_.BroadcastsInDim S26x64 (![] : Fin 0 → Fin S26x64.rank)
  reducesTo_S26x64_S_d0_1 : S26x64.ReducesTo [0, 1] S_
  bcast_S_S64x256 : S_.BroadcastsInDim S64x256 (![] : Fin 0 → Fin S64x256.rank)
  reducesTo_S64x256_S_d0_1 : S64x256.ReducesTo [0, 1] S_

variable [Facts]

def fn_part1 {F : FTy → Type} [FloatOps F] (main_arg7 : FVec F S320000x10 .f32) (main_arg8 : FVec F S26x64 .f32) (main_arg9 : FVec F S64x256 .f32) (main_v12 : IVec S_ 1) (main_v15 : IVec S320000x16 1) (main_c_5 : IVec S_ 1) : IVec S_ 1 :=
  let main_v16 : IVec S_ 1 := (fun x v => Host.reduce IntOp.andi x v reducesTo_S320000x16_S_d0_1 h_S_) main_v15 main_c_5
  let main_v17 : IVec S_ 1 := andi main_v12 main_v16
  let main_v18 : FVec F S320000x10 .f32 := Host.absf main_arg7
  let main_cst_6 : FVec F S_ .f32 := constant S_ .f32 0x7F800000#32
  let main_v19 : FVec F S320000x10 .f32 := broadcastInDim S320000x10 ![] bcast_S_S320000x10 main_cst_6
  let main_v20 : IVec S320000x10 1 := cmpf .olt main_v18 main_v19
  let main_c_7 : IVec S_ 1 := constantI S_ 1 1#1
  let main_v21 : IVec S_ 1 := (fun x v => Host.reduce IntOp.andi x v reducesTo_S320000x10_S_d0_1 h_S_) main_v20 main_c_7
  let main_v22 : IVec S_ 1 := andi main_v17 main_v21
  let main_v23 : FVec F S26x64 .f32 := Host.absf main_arg8
  let main_cst_8 : FVec F S_ .f32 := constant S_ .f32 0x7F800000#32
  let main_v24 : FVec F S26x64 .f32 := broadcastInDim S26x64 ![] bcast_S_S26x64 main_cst_8
  let main_v25 : IVec S26x64 1 := cmpf .olt main_v23 main_v24
  let main_c_9 : IVec S_ 1 := constantI S_ 1 1#1
  let main_v26 : IVec S_ 1 := (fun x v => Host.reduce IntOp.andi x v reducesTo_S26x64_S_d0_1 h_S_) main_v25 main_c_9
  let main_v27 : IVec S_ 1 := andi main_v22 main_v26
  let main_v28 : FVec F S64x256 .f32 := Host.absf main_arg9
  let main_cst_10 : FVec F S_ .f32 := constant S_ .f32 0x7F800000#32
  let main_v29 : FVec F S64x256 .f32 := broadcastInDim S64x256 ![] bcast_S_S64x256 main_cst_10
  let main_v30 : IVec S64x256 1 := cmpf .olt main_v28 main_v29
  let main_c_11 : IVec S_ 1 := constantI S_ 1 1#1
  let main_v31 : IVec S_ 1 := (fun x v => Host.reduce IntOp.andi x v reducesTo_S64x256_S_d0_1 h_S_) main_v30 main_c_11
  let main_v32 : IVec S_ 1 := andi main_v27 main_v31
  main_v32

def fn {F : FTy → Type} [FloatOps F] (main_arg0 : FVec F S10000x128 .f32) (main_arg1 : FVec F S320000x128 .f32) (main_arg2 : IVec S2x320000 32) (main_arg3 : IVec S10000 32) (main_arg4 : IVec S320000 32) (main_arg5 : FVec F S320000x16 .f32) (main_arg6 : FVec F S320000 .f32) (main_arg7 : FVec F S320000x10 .f32) (main_arg8 : FVec F S26x64 .f32) (main_arg9 : FVec F S64x256 .f32) (main_arg10 : FVec F S10x256 .f32) (main_arg11 : FVec F S128x256 .f32) (main_arg12 : FVec F S256 .f32) (main_arg13 : FVec F S128x256 .f32) (main_arg14 : FVec F S256 .f32) (main_arg15 : FVec F S10x128 .f32) (main_arg16 : FVec F S55x128 .f32) : IVec S_ 1 :=
  let main_c : IVec S_ 32 := constantI S_ 32 0#32
  let main_v0 : IVec S10000 32 := broadcastInDim S10000 ![] bcast_S_S10000 main_c
  let main_v1 : IVec S10000 1 := cmpi .sge main_arg3 main_v0
  let main_c_0 : IVec S_ 32 := constantI S_ 32 10#32
  let main_v2 : IVec S10000 32 := broadcastInDim S10000 ![] bcast_S_S10000 main_c_0
  let main_v3 : IVec S10000 1 := cmpi .slt main_arg3 main_v2
  let main_v4 : IVec S10000 1 := andi main_v1 main_v3
  let main_c_1 : IVec S_ 1 := constantI S_ 1 1#1
  let main_v5 : IVec S_ 1 := (fun x v => Host.reduce IntOp.andi x v reducesTo_S10000_S_d0 h_S_) main_v4 main_c_1
  let main_c_2 : IVec S_ 32 := constantI S_ 32 0#32
  let main_v6 : IVec S320000 32 := broadcastInDim S320000 ![] bcast_S_S320000 main_c_2
  let main_v7 : IVec S320000 1 := cmpi .sge main_arg4 main_v6
  let main_c_3 : IVec S_ 32 := constantI S_ 32 55#32
  let main_v8 : IVec S320000 32 := broadcastInDim S320000 ![] bcast_S_S320000 main_c_3
  let main_v9 : IVec S320000 1 := cmpi .slt main_arg4 main_v8
  let main_v10 : IVec S320000 1 := andi main_v7 main_v9
  let main_c_4 : IVec S_ 1 := constantI S_ 1 1#1
  let main_v11 : IVec S_ 1 := (fun x v => Host.reduce IntOp.andi x v reducesTo_S320000_S_d0 h_S_) main_v10 main_c_4
  let main_v12 : IVec S_ 1 := andi main_v5 main_v11
  let main_v13 : FVec F S320000x16 .f32 := Host.absf main_arg5
  let main_cst : FVec F S_ .f32 := constant S_ .f32 0x7F800000#32
  let main_v14 : FVec F S320000x16 .f32 := broadcastInDim S320000x16 ![] bcast_S_S320000x16 main_cst
  let main_v15 : IVec S320000x16 1 := cmpf .olt main_v13 main_v14
  let main_c_5 : IVec S_ 1 := constantI S_ 1 1#1
  fn_part1 (F := F) main_arg7 main_arg8 main_arg9 main_v12 main_v15 main_c_5
-- ==== Kernel.lean ====
abbrev S10000x128 : Shape := ⟨2, ![10000, 128]⟩
abbrev S320000x128 : Shape := ⟨2, ![320000, 128]⟩
abbrev S2x320000 : Shape := ⟨2, ![2, 320000]⟩
abbrev S10000 : Shape := ⟨1, ![10000]⟩
abbrev S320000 : Shape := ⟨1, ![320000]⟩
abbrev S320000x16 : Shape := ⟨2, ![320000, 16]⟩
abbrev S320000x10 : Shape := ⟨2, ![320000, 10]⟩
abbrev S26x64 : Shape := ⟨2, ![26, 64]⟩
abbrev S64x256 : Shape := ⟨2, ![64, 256]⟩
abbrev S10x256 : Shape := ⟨2, ![10, 256]⟩
abbrev S128x256 : Shape := ⟨2, ![128, 256]⟩
abbrev S256 : Shape := ⟨1, ![256]⟩
abbrev S10x128 : Shape := ⟨2, ![10, 128]⟩
abbrev S55x128 : Shape := ⟨2, ![55, 128]⟩
abbrev S320000x1 : Shape := ⟨2, ![320000, 1]⟩
abbrev S320000x27 : Shape := ⟨2, ![320000, 27]⟩
abbrev S10000x1 : Shape := ⟨2, ![10000, 1]⟩
abbrev S_ : Shape := ⟨0, ![]⟩
abbrev S1x64 : Shape := ⟨2, ![1, 64]⟩
abbrev S27x64 : Shape := ⟨2, ![27, 64]⟩
abbrev S27x256 : Shape := ⟨2, ![27, 256]⟩
abbrev S1x256 : Shape := ⟨2, ![1, 256]⟩
abbrev S320000x64 : Shape := ⟨2, ![320000, 64]⟩
abbrev S320000x256 : Shape := ⟨2, ![320000, 256]⟩
abbrev S6400x27 : Shape := ⟨2, ![6400, 27]⟩
abbrev S6400x128 : Shape := ⟨2, ![6400, 128]⟩
abbrev S6400x64 : Shape := ⟨2, ![6400, 64]⟩
abbrev S6400x256 : Shape := ⟨2, ![6400, 256]⟩
abbrev S6400x1 : Shape := ⟨2, ![6400, 1]⟩
abbrev S6400x55 : Shape := ⟨2, ![6400, 55]⟩
abbrev S2500x128 : Shape := ⟨2, ![2500, 128]⟩
abbrev S10000x256 : Shape := ⟨2, ![10000, 256]⟩
abbrev S2000x1 : Shape := ⟨2, ![2000, 1]⟩
abbrev S2000x128 : Shape := ⟨2, ![2000, 128]⟩
abbrev S2000x256 : Shape := ⟨2, ![2000, 256]⟩
abbrev S2000x10 : Shape := ⟨2, ![2000, 10]⟩

abbrev nBuf : Space → Nat
  | .hbm => 42
  | .vmem => 26
  | .smem => 0
  | _ => 0

abbrev bufTy : (tb : Table) → Fin (tcTables nBuf tb) → BufTy
  | .hbm, ⟨0, _⟩ => ⟨S10000x128, .f32⟩
  | .hbm, ⟨1, _⟩ => ⟨S320000x128, .f32⟩
  | .hbm, ⟨2, _⟩ => ⟨S2x320000, .i32⟩
  | .hbm, ⟨3, _⟩ => ⟨S10000, .i32⟩
  | .hbm, ⟨4, _⟩ => ⟨S320000, .i32⟩
  | .hbm, ⟨5, _⟩ => ⟨S320000x16, .f32⟩
  | .hbm, ⟨6, _⟩ => ⟨S320000, .f32⟩
  | .hbm, ⟨7, _⟩ => ⟨S320000x10, .f32⟩
  | .hbm, ⟨8, _⟩ => ⟨S26x64, .f32⟩
  | .hbm, ⟨9, _⟩ => ⟨S64x256, .f32⟩
  | .hbm, ⟨10, _⟩ => ⟨S10x256, .f32⟩
  | .hbm, ⟨11, _⟩ => ⟨S128x256, .f32⟩
  | .hbm, ⟨12, _⟩ => ⟨S256, .f32⟩
  | .hbm, ⟨13, _⟩ => ⟨S128x256, .f32⟩
  | .hbm, ⟨14, _⟩ => ⟨S256, .f32⟩
  | .hbm, ⟨15, _⟩ => ⟨S10x128, .f32⟩
  | .hbm, ⟨16, _⟩ => ⟨S55x128, .f32⟩
  | .hbm, ⟨17, _⟩ => ⟨S320000x10, .bf16⟩
  | .hbm, ⟨18, _⟩ => ⟨S320000x16, .bf16⟩
  | .hbm, ⟨19, _⟩ => ⟨S320000, .bf16⟩
  | .hbm, ⟨20, _⟩ => ⟨S320000x1, .bf16⟩
  | .hbm, ⟨21, _⟩ => ⟨S320000x27, .bf16⟩
  | .hbm, ⟨22, _⟩ => ⟨S10000, .f32⟩
  | .hbm, ⟨23, _⟩ => ⟨S10000x1, .f32⟩
  | .hbm, ⟨24, _⟩ => ⟨S_, .f32⟩
  | .hbm, ⟨25, _⟩ => ⟨S1x64, .f32⟩
  | .hbm, ⟨26, _⟩ => ⟨S27x64, .f32⟩
  | .hbm, ⟨27, _⟩ => ⟨S27x64, .bf16⟩
  | .hbm, ⟨28, _⟩ => ⟨S27x256, .f32⟩
  | .hbm, ⟨29, _⟩ => ⟨S27x256, .bf16⟩
  | .hbm, ⟨30, _⟩ => ⟨S128x256, .bf16⟩
  | .hbm, ⟨31, _⟩ => ⟨S55x128, .bf16⟩
  | .hbm, ⟨32, _⟩ => ⟨S1x256, .f32⟩
  | .hbm, ⟨33, _⟩ => ⟨S1x256, .f32⟩
  | .hbm, ⟨34, _⟩ => ⟨S320000x64, .f32⟩
  | .hbm, ⟨35, _⟩ => ⟨S320000x256, .f32⟩
  | .hbm, ⟨36, _⟩ => ⟨S2500x128, .f32⟩
  | .hbm, ⟨37, _⟩ => ⟨S2500x128, .f32⟩
  | .hbm, ⟨38, _⟩ => ⟨S2500x128, .i32⟩
  | .hbm, ⟨39, _⟩ => ⟨S320000, .f32⟩
  | .hbm, ⟨40, _⟩ => ⟨S320000, .i32⟩
  | .hbm, ⟨41, _⟩ => ⟨S10000x256, .f32⟩
  | .local _ .vmem, ⟨0, _⟩ => ⟨S6400x27, .bf16⟩
  | .local _ .vmem, ⟨1, _⟩ => ⟨S6400x27, .bf16⟩
  | .local _ .vmem, ⟨2, _⟩ => ⟨S6400x128, .f32⟩
  | .local _ .vmem, ⟨3, _⟩ => ⟨S6400x128, .f32⟩
  | .local _ .vmem, ⟨4, _⟩ => ⟨S27x64, .bf16⟩
  | .local _ .vmem, ⟨5, _⟩ => ⟨S27x256, .bf16⟩
  | .local _ .vmem, ⟨6, _⟩ => ⟨S128x256, .bf16⟩
  | .local _ .vmem, ⟨7, _⟩ => ⟨S1x256, .f32⟩
  | .local _ .vmem, ⟨8, _⟩ => ⟨S55x128, .bf16⟩
  | .local _ .vmem, ⟨9, _⟩ => ⟨S6400x64, .f32⟩
  | .local _ .vmem, ⟨10, _⟩ => ⟨S6400x64, .f32⟩
  | .local _ .vmem, ⟨11, _⟩ => ⟨S6400x256, .f32⟩
  | .local _ .vmem, ⟨12, _⟩ => ⟨S6400x256, .f32⟩
  | .local _ .vmem, ⟨13, _⟩ => ⟨S2500x128, .f32⟩
  | .local _ .vmem, ⟨14, _⟩ => ⟨S2500x128, .f32⟩
  | .local _ .vmem, ⟨15, _⟩ => ⟨S2500x128, .i32⟩
  | .local _ .vmem, ⟨16, _⟩ => ⟨S2000x1, .f32⟩
  | .local _ .vmem, ⟨17, _⟩ => ⟨S2000x1, .f32⟩
  | .local _ .vmem, ⟨18, _⟩ => ⟨S2000x128, .f32⟩
  | .local _ .vmem, ⟨19, _⟩ => ⟨S2000x128, .f32⟩
  | .local _ .vmem, ⟨20, _⟩ => ⟨S10x256, .f32⟩
  | .local _ .vmem, ⟨21, _⟩ => ⟨S10x128, .f32⟩
  | .local _ .vmem, ⟨22, _⟩ => ⟨S128x256, .f32⟩
  | .local _ .vmem, ⟨23, _⟩ => ⟨S1x256, .f32⟩
  | .local _ .vmem, ⟨24, _⟩ => ⟨S2000x256, .f32⟩
  | .local _ .vmem, ⟨25, _⟩ => ⟨S2000x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16_0 : Ref sig .tc := ⟨.hbm, 34, rfl⟩
abbrev main_v16_1 : Ref sig .tc := ⟨.hbm, 35, rfl⟩
abbrev main_v17 : Ref sig .tc := ⟨.hbm, 36, rfl⟩
abbrev main_v18_0 : Ref sig .tc := ⟨.hbm, 37, rfl⟩
abbrev main_v18_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem1_0 : DmaSem sig := 14
abbrev cc1_sem2_0 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x27 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S27x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S27x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S55x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6400x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S6400x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2500x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2500x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2500x128 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S10x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S10x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]
-- ==== KernelIdeal.lean ====
variable {F : FTy → Type} [FloatOps F] [Named F]
def κ : String → Option EReal := fun
  | "inv_rmax" => some ((1 / 5 : ℝ) : EReal)
  | _ => none
-- ==== ReferenceIdeal.lean ====
abbrev S10000x128 : Shape := ⟨2, ![10000, 128]⟩
abbrev S320000x128 : Shape := ⟨2, ![320000, 128]⟩
abbrev S2x320000 : Shape := ⟨2, ![2, 320000]⟩
abbrev S10000 : Shape := ⟨1, ![10000]⟩
abbrev S320000 : Shape := ⟨1, ![320000]⟩
abbrev S320000x16 : Shape := ⟨2, ![320000, 16]⟩
abbrev S320000x10 : Shape := ⟨2, ![320000, 10]⟩
abbrev S26x64 : Shape := ⟨2, ![26, 64]⟩
abbrev S64x256 : Shape := ⟨2, ![64, 256]⟩
abbrev S10x256 : Shape := ⟨2, ![10, 256]⟩
abbrev S128x256 : Shape := ⟨2, ![128, 256]⟩
abbrev S256 : Shape := ⟨1, ![256]⟩
abbrev S10x128 : Shape := ⟨2, ![10, 128]⟩
abbrev S55x128 : Shape := ⟨2, ![55, 128]⟩
abbrev S320000x26 : Shape := ⟨2, ![320000, 26]⟩
abbrev S320000x64 : Shape := ⟨2, ![320000, 64]⟩
abbrev S320000x256 : Shape := ⟨2, ![320000, 256]⟩
abbrev S_ : Shape := ⟨0, ![]⟩
abbrev S10000x1 : Shape := ⟨2, ![10000, 1]⟩
abbrev S1 : Shape := ⟨1, ![1]⟩
abbrev S1x1 : Shape := ⟨2, ![1, 1]⟩
abbrev S10000x256 : Shape := ⟨2, ![10000, 256]⟩
abbrev S320000x1 : Shape := ⟨2, ![320000, 1]⟩
abbrev S1x256 : Shape := ⟨2, ![1, 256]⟩

abbrev nBuf : Space → Nat
  | .hbm => 146
  | .vmem => 0
  | .smem => 0
  | _ => 0

abbrev hbmTy0_0 (i : Nat) : BufTy := match i % 128 with
  | 0 => ⟨S10000x128, .f32⟩
  | 1 => ⟨S320000x128, .f32⟩
  | 2 => ⟨S2x320000, .i32⟩
  | 3 => ⟨S10000, .i32⟩
  | 4 => ⟨S320000, .i32⟩
  | 5 => ⟨S320000x16, .f32⟩
  | 6 => ⟨S320000, .f32⟩
  | 7 => ⟨S320000x10, .f32⟩
  | 8 => ⟨S26x64, .f32⟩
  | 9 => ⟨S64x256, .f32⟩
  | 10 => ⟨S10x256, .f32⟩
  | 11 => ⟨S128x256, .f32⟩
  | 12 => ⟨S256, .f32⟩
  | 13 => ⟨S128x256, .f32⟩
  | 14 => ⟨S256, .f32⟩
  | 15 => ⟨S10x128, .f32⟩
  | 16 => ⟨S55x128, .f32⟩
  | 17 => ⟨S320000x26, .f32⟩
  | 18 => ⟨S320000x64, .f32⟩
  | 19 => ⟨S320000x256, .f32⟩
  | 20 => ⟨S_, .i32⟩
  | 21 => ⟨S10000, .i32⟩
  | 22 => ⟨S10000, .i1⟩
  | 23 => ⟨S_, .i32⟩
  | 24 => ⟨S10000, .i32⟩
  | 25 => ⟨S10000, .i32⟩
  | 26 => ⟨S10000, .i32⟩
  | 27 => ⟨S10000x1, .i32⟩
  | 28 => ⟨S1, .i32⟩
  | 29 => ⟨S_, .i32⟩
  | 30 => ⟨S10000x1, .i32⟩
  | 31 => ⟨S10000x1, .i1⟩
  | 32 => ⟨S1x1, .i32⟩
  | 33 => ⟨S10000x1, .i32⟩
  | 34 => ⟨S10000x1, .i1⟩
  | 35 => ⟨S10000x1, .i1⟩
  | 36 => ⟨S_, .i1⟩
  | 37 => ⟨S10000, .i1⟩
  | 38 => ⟨S10000x256, .f32⟩
  | 39 => ⟨S10000x256, .i1⟩
  | 40 => ⟨S_, .f32⟩
  | 41 => ⟨S10000x256, .f32⟩
  | 42 => ⟨S10000x256, .f32⟩
  | 43 => ⟨S_, .f32⟩
  | 44 => ⟨S320000, .f32⟩
  | 45 => ⟨S320000, .f32⟩
  | 46 => ⟨S_, .f32⟩
  | 47 => ⟨S_, .f32⟩
  | 48 => ⟨S_, .f32⟩
  | 49 => ⟨S320000, .f32⟩
  | 50 => ⟨S320000, .f32⟩
  | 51 => ⟨S_, .f32⟩
  | 52 => ⟨S320000, .f32⟩
  | 53 => ⟨S320000, .f32⟩
  | 54 => ⟨S_, .f32⟩
  | 55 => ⟨S320000, .f32⟩
  | 56 => ⟨S320000, .f32⟩
  | 57 => ⟨S320000, .f32⟩
  | 58 => ⟨S_, .f32⟩
  | 59 => ⟨S320000, .f32⟩
  | 60 => ⟨S320000, .f32⟩
  | 61 => ⟨S_, .f32⟩
  | 62 => ⟨S320000, .f32⟩
  | 63 => ⟨S320000, .f32⟩
  | 64 => ⟨S320000, .i32⟩
  | 65 => ⟨S_, .i32⟩
  | 66 => ⟨S320000, .i32⟩
  | 67 => ⟨S320000, .i1⟩
  | 68 => ⟨S_, .i32⟩
  | 69 => ⟨S320000, .i32⟩
  | 70 => ⟨S320000, .i32⟩
  | 71 => ⟨S320000, .i32⟩
  | 72 => ⟨S320000x1, .i32⟩
  | 73 => ⟨S1, .i32⟩
  | 74 => ⟨S_, .i32⟩
  | 75 => ⟨S320000x1, .i32⟩
  | 76 => ⟨S320000x1, .i1⟩
  | 77 => ⟨S1x1, .i32⟩
  | 78 => ⟨S320000x1, .i32⟩
  | 79 => ⟨S320000x1, .i1⟩
  | 80 => ⟨S320000x1, .i1⟩
  | 81 => ⟨S_, .i1⟩
  | 82 => ⟨S320000, .i1⟩
  | 83 => ⟨S320000x128, .f32⟩
  | 84 => ⟨S320000x128, .i1⟩
  | 85 => ⟨S_, .f32⟩
  | 86 => ⟨S320000x128, .f32⟩
  | 87 => ⟨S320000x128, .f32⟩
  | 88 => ⟨S320000x128, .f32⟩
  | 89 => ⟨S_, .i32⟩
  | 90 => ⟨S320000, .i32⟩
  | 91 => ⟨S320000, .i1⟩
  | 92 => ⟨S_, .i32⟩
  | 93 => ⟨S320000, .i32⟩
  | 94 => ⟨S320000, .i32⟩
  | 95 => ⟨S320000, .i32⟩
  | 96 => ⟨S320000x1, .i32⟩
  | 97 => ⟨S1, .i32⟩
  | 98 => ⟨S_, .i32⟩
  | 99 => ⟨S320000x1, .i32⟩
  | 100 => ⟨S320000x1, .i1⟩
  | 101 => ⟨S1x1, .i32⟩
  | 102 => ⟨S320000x1, .i32⟩
  | 103 => ⟨S320000x1, .i1⟩
  | 104 => ⟨S320000x1, .i1⟩
  | 105 => ⟨S_, .i1⟩
  | 106 => ⟨S320000, .i1⟩
  | 107 => ⟨S320000x128, .f32⟩
  | 108 => ⟨S320000x128, .i1⟩
  | 109 => ⟨S_, .f32⟩
  | 110 => ⟨S320000x128, .f32⟩
  | 111 => ⟨S320000x128, .f32⟩
  | 112 => ⟨S320000x256, .f32⟩
  | 113 => ⟨S1x256, .f32⟩
  | 114 => ⟨S320000x256, .f32⟩
  | 115 => ⟨S320000x256, .f32⟩
  | 116 => ⟨S320000x256, .f32⟩
  | 117 => ⟨S_, .i32⟩
  | 118 => ⟨S10000, .i32⟩
  | 119 => ⟨S10000, .i1⟩
  | 120 => ⟨S_, .i32⟩
  | 121 => ⟨S10000, .i32⟩
  | 122 => ⟨S10000, .i32⟩
  | 123 => ⟨S10000, .i32⟩
  | 124 => ⟨S10000x1, .i32⟩
  | 125 => ⟨S1, .i32⟩
  | 126 => ⟨S_, .i32⟩
  | 127 => ⟨S10000x1, .i32⟩
  | _ => ⟨S10000x128, .f32⟩

abbrev hbmTy0_1 (i : Nat) : BufTy := match i % 128 with
  | 0 => ⟨S10000x1, .i1⟩
  | 1 => ⟨S1x1, .i32⟩
  | 2 => ⟨S10000x1, .i32⟩
  | 3 => ⟨S10000x1, .i1⟩
  | 4 => ⟨S10000x1, .i1⟩
  | 5 => ⟨S_, .i1⟩
  | 6 => ⟨S10000, .i1⟩
  | 7 => ⟨S10000x128, .f32⟩
  | 8 => ⟨S10000x128, .i1⟩
  | 9 => ⟨S_, .f32⟩
  | 10 => ⟨S10000x128, .f32⟩
  | 11 => ⟨S10000x128, .f32⟩
  | 12 => ⟨S10000x128, .f32⟩
  | 13 => ⟨S10000x256, .f32⟩
  | 14 => ⟨S1x256, .f32⟩
  | 15 => ⟨S10000x256, .f32⟩
  | 16 => ⟨S10000x256, .f32⟩
  | 17 => ⟨S10000x256, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v3 : Ref sig .tc := ⟨.hbm, 42, rfl⟩
abbrev main_cst : Ref sig .tc := ⟨.hbm, 43, rfl⟩
abbrev main_v4 : Ref sig .tc := ⟨.hbm, 44, rfl⟩
abbrev main_v5 : Ref sig .tc := ⟨.hbm, 45, rfl⟩
abbrev main_cst_0 : Ref sig .tc := ⟨.hbm, 46, rfl⟩
abbrev main_cst_1 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v6 : Ref sig .tc := ⟨.hbm, 53, rfl⟩
abbrev main_cst_2 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_cst_3 : Ref sig .tc := ⟨.hbm, 58, rfl⟩
abbrev main_v10 : Ref sig .tc := ⟨.hbm, 59, rfl⟩
abbrev main_v11 : Ref sig .tc := ⟨.hbm, 60, rfl⟩
abbrev main_cst_4 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_c_2 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_3 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_call2_cst : Ref sig .tc := ⟨.hbm, 85, rfl⟩
abbrev main_call2_v15 : Ref sig .tc := ⟨.hbm, 86, rfl⟩
abbrev main_v15 : Ref sig .tc := ⟨.hbm, 87, rfl⟩
abbrev main_v16 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_c_1 : Ref sig .tc := ⟨.hbm, 97, rfl⟩
abbrev main_call3_c_2 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_c_3 : Ref sig .tc := ⟨.hbm, 105, rfl⟩
abbrev main_call3_v12 : Ref sig .tc := ⟨.hbm, 106, rfl⟩
abbrev main_call3_v13 : Ref sig .tc := ⟨.hbm, 107, rfl⟩
abbrev main_call3_v14 : Ref sig .tc := ⟨.hbm, 108, rfl⟩
abbrev main_call3_cst : Ref sig .tc := ⟨.hbm, 109, rfl⟩
abbrev main_call3_v15 : Ref sig .tc := ⟨.hbm, 110, rfl⟩
abbrev main_v17 : Ref sig .tc := ⟨.hbm, 111, rfl⟩
abbrev main_v18 : Ref sig .tc := ⟨.hbm, 112, rfl⟩
abbrev main_v19 : Ref sig .tc := ⟨.hbm, 113, rfl⟩
abbrev main_v20 : Ref sig .tc := ⟨.hbm, 114, rfl⟩
abbrev main_v21 : Ref sig .tc := ⟨.hbm, 115, rfl⟩
abbrev main_v22 : Ref sig .tc := ⟨.hbm, 116, rfl⟩
abbrev main_call4_c : Ref sig .tc := ⟨.hbm, 117, rfl⟩
abbrev main_call4_v0 : Ref sig .tc := ⟨.hbm, 118, rfl⟩
abbrev main_call4_v1 : Ref sig .tc := ⟨.hbm, 119, rfl⟩
abbrev main_call4_c_0 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_call4_v5 : Ref sig .tc := ⟨.hbm, 124, rfl⟩
abbrev main_call4_c_1 : Ref sig .tc := ⟨.hbm, 125, rfl⟩
abbrev main_call4_c_2 : Ref sig .tc := ⟨.hbm, 126, rfl⟩
abbrev main_call4_v6 : Ref sig .tc := ⟨.hbm, 127, rfl⟩
abbrev main_call4_v7 : Ref sig .tc := ⟨.hbm, 128, rfl⟩
abbrev main_call4_v8 : Ref sig .tc := ⟨.hbm, 129, rfl⟩
abbrev main_call4_v9 : Ref sig .tc := ⟨.hbm, 130, rfl⟩
abbrev main_call4_v10 : Ref sig .tc := ⟨.hbm, 131, rfl⟩
abbrev main_call4_v11 : Ref sig .tc := ⟨.hbm, 132, rfl⟩
abbrev main_call4_c_3 : Ref sig .tc := ⟨.hbm, 133, rfl⟩
abbrev main_call4_v12 : Ref sig .tc := ⟨.hbm, 134, rfl⟩
abbrev main_call4_v13 : Ref sig .tc := ⟨.hbm, 135, rfl⟩
abbrev main_call4_v14 : Ref sig .tc := ⟨.hbm, 136, rfl⟩
abbrev main_call4_cst : Ref sig .tc := ⟨.hbm, 137, rfl⟩
abbrev main_call4_v15 : Ref sig .tc := ⟨.hbm, 138, rfl⟩
abbrev main_v23 : Ref sig .tc := ⟨.hbm, 139, rfl⟩
abbrev main_v24 : Ref sig .tc := ⟨.hbm, 140, rfl⟩
abbrev main_v25 : Ref sig .tc := ⟨.hbm, 141, rfl⟩
abbrev main_v26 : Ref sig .tc := ⟨.hbm, 142, rfl⟩
abbrev main_v27 : Ref sig .tc := ⟨.hbm, 143, rfl⟩
abbrev main_v28 : Ref sig .tc := ⟨.hbm, 144, rfl⟩
abbrev main_v29 : Ref sig .tc := ⟨.hbm, 145, rfl⟩

abbrev nD : Nat := 1
abbrev τ : Topo := Topo.v7x

variable {F : FTy → Type} [FloatOps F]
-- ==== Proof.Take.lean ====
/-
  `jnp.take` of rows of a table, as the reference prints it: a negative index is wrapped by the table's length, the
  rows are gathered, and a row whose index is out of range is filled with NaN. Where every index is a row number of
  the table, the result's rows are the table's rows.
-/
module

public import Idealize.ShloMosaic.Lib.Routing.Ops
public import Idealize.ShloMosaic.Lib.ReduceAll
public import Idealize.ShloMosaic.Lib.Pointwise

@[expose] public section

noncomputable section

namespace Cert.Take

open Idealize.ShloMosaic Idealize.ShloMosaic.Routing

variable {n w N : ℕ}

/-- A word that holds a number below `2 ^ 31` reads as that number, signed. -/
theorem toInt_ofNat {b : ℕ} (h : b < 2 ^ 31) : (BitVec.ofNat 32 b).toInt = b := by
  have h' : (BitVec.ofNat 32 b).toNat = b := by rw [BitVec.toNat_ofNat]; omega
  rw [BitVec.toInt_eq_toNat_of_lt (by omega), h']

/-- The wrap of a negative index leaves a row number alone. -/
theorem wrap_apply (idx : IVec (shape1 N) 32) (nW : BitVec 32) (hs hs' : shape0.BroadcastsInDim (shape1 N) (![] : Fin 0 → Fin (shape1 N).rank))
    (i : (shape1 N).Idx) {b : ℕ} (hb : b < 2 ^ 31) (h : idx i = BitVec.ofNat 32 b) :
    select (cmpi .slt idx (broadcastInDim (shape1 N) ![] hs (constantI shape0 32 0#32)))
      (addi idx (broadcastInDim (shape1 N) ![] hs' (constantI shape0 32 nW))) idx i = BitVec.ofNat 32 b := by
  rw [select, Scalar.select, if_neg, h]
  show ¬ IntOp.cmpi .slt (idx i) (broadcastInDim (shape1 N) ![] hs (constantI shape0 32 0#32) i) = 1#1
  rw [bc0, IntOp.cmpi_slt, h, toInt_ofNat hb]
  show ¬ ((b : ℤ) < 0)
  omega

/-- THE TAKE READ AT AN INDEX: row `i` of the result is the table's row that `idx` names at `i`. -/
theorem apply (d : GatherDims (shape2 n w) (shape2 N 1) (shape2 N w)) (hoff : d.offsetDims = [1])
    (hcoll : d.collapsedSliceDims = [0]) (hob : d.operandBatchingDims = []) (hsim : d.startIndexMap = [0]) (hivd : d.indexVectorDim = 1)
    (T : FVec Ideal (shape2 n w) .f32) (idx : IVec (shape1 N) 32) (nW lastW : BitVec 32)
    (hs : shape0.BroadcastsInDim (shape1 N) (![] : Fin 0 → Fin (shape1 N).rank))
    (hc : (shape1 N).BroadcastsInDim (shape2 N 1) (![0] : Fin 1 → Fin (shape2 N 1).rank))
    (hz : shape0.BroadcastsInDim (shape2 N 1) (![] : Fin 0 → Fin (shape2 N 1).rank))
    (h1 : (shape1 1).BroadcastsInDim (shape2 1 1) (![1] : Fin 1 → Fin (shape2 1 1).rank))
    (h2 : (shape2 1 1).BroadcastsInDim (shape2 N 1) (![0, 1] : Fin 2 → Fin (shape2 N 1).rank))
    (hw : (shape1 N).BroadcastsInDim (shape2 N w) (![0] : Fin 1 → Fin (shape2 N w).rank))
    (hr : (shape2 N 1).ReducesTo [1] (shape1 N)) (hu : 0 < shape0.numel)
    (row : Fin N → Fin n) (hrow : ∀ i, idx (ix1 i) = BitVec.ofNat 32 (row i)) (hn : n < 2 ^ 31) (hlast : lastW = BitVec.ofNat 32 (n - 1))
    (i : Fin N) (k : Fin w) (q : FVec Ideal (shape2 N w) .f32) :
    select (broadcastInDim (shape2 N w) ![0] hw
        (Host.reduce IntOp.andi
          (andi (cmpi .sge (broadcastInDim (shape2 N 1) ![0] hc (select (cmpi .slt idx (broadcastInDim (shape1 N) ![] hs (constantI shape0 32 0#32)))
              (addi idx (broadcastInDim (shape1 N) ![] hs (constantI shape0 32 nW))) idx)) (broadcastInDim (shape2 N 1) ![] hz (constantI shape0 32 0#32)))
            (cmpi .sle (broadcastInDim (shape2 N 1) ![0] hc (select (cmpi .slt idx (broadcastInDim (shape1 N) ![] hs (constantI shape0 32 0#32)))
              (addi idx (broadcastInDim (shape1 N) ![] hs (constantI shape0 32 nW))) idx))
              (broadcastInDim (shape2 N 1) ![0, 1] h2 (broadcastInDim (shape2 1 1) ![1] h1 (constantI (shape1 1) 32 lastW)))))
          (constantI shape0 1 1#1) hr hu))
      (Host.gather d T (broadcastInDim (shape2 N 1) ![0] hc (select (cmpi .slt idx (broadcastInDim (shape1 N) ![] hs (constantI shape0 32 0#32)))
              (addi idx (broadcastInDim (shape1 N) ![] hs (constantI shape0 32 nW))) idx))) q (ix2 i k) = T (ix2 (row i) k) := by
  have hlt : ∀ i, (row i).val < 2 ^ 31 := fun i => (row i).isLt.trans hn
  have hcol : ∀ p : Fin N, broadcastInDim (shape2 N 1) ![0] hc (select (cmpi .slt idx (broadcastInDim (shape1 N) ![] hs (constantI shape0 32 0#32)))
      (addi idx (broadcastInDim (shape1 N) ![] hs (constantI shape0 32 nW))) idx) (ValueIdx.ix2 p (0 : Fin 1)) = BitVec.ofNat 32 (row p) := fun p => by
    rw [bcCol]; exact wrap_apply idx nW hs hs _ (hlt p) (hrow p)
  have hall : ∀ j : (shape1 N).Idx, Host.reduce IntOp.andi
          (andi (cmpi .sge (broadcastInDim (shape2 N 1) ![0] hc (select (cmpi .slt idx (broadcastInDim (shape1 N) ![] hs (constantI shape0 32 0#32)))
              (addi idx (broadcastInDim (shape1 N) ![] hs (constantI shape0 32 nW))) idx)) (broadcastInDim (shape2 N 1) ![] hz (constantI shape0 32 0#32)))
            (cmpi .sle (broadcastInDim (shape2 N 1) ![0] hc (select (cmpi .slt idx (broadcastInDim (shape1 N) ![] hs (constantI shape0 32 0#32)))
              (addi idx (broadcastInDim (shape1 N) ![] hs (constantI shape0 32 nW))) idx))
              (broadcastInDim (shape2 N 1) ![0, 1] h2 (broadcastInDim (shape2 1 1) ![1] h1 (constantI (shape1 1) 32 lastW)))))
          (constantI shape0 1 1#1) hr hu j = 1#1 := fun j => by
    refine Host.reduce_andi_one _ _ hr hu j rfl fun x => ?_
    obtain ⟨p, q, rfl⟩ : ∃ (p : Fin N) (q : Fin 1), x = ValueIdx.ix2 p q := ⟨x 0, x 1, ValueIdx.eq_ix2 x⟩
    obtain rfl : q = 0 := Subsingleton.elim _ _
    show IntOp.andi (IntOp.cmpi .sge _ _) (IntOp.cmpi .sle _ _) = 1#1
    rw [hcol p, IntOp.andi_eq_one, IntOp.cmpi_sge, IntOp.cmpi_sle, bc0, toInt_ofNat (hlt p), bcCols]
    refine ⟨?_, ?_⟩
    · show (0 : ℤ) ≤ _; omega
    · show _ ≤ BitVec.toInt lastW
      have := (row p).isLt
      rw [hlast, toInt_ofNat (by omega)]; omega
  rw [select, Scalar.select, if_pos]
  · exact gather_row d hoff hcoll hob hsim hivd T _ i k (row i) (hcol i) hn
  · exact hall _

/-- A product of two arrays at an index where the second's element is known. -/
theorem times_apply {s : Shape} (a t : FVec Ideal s .f32) (i : s.Idx) (z : EReal) (h : t i = z) : mulf a t i = (a i * z : EReal) := by
  rw [← h]; rfl

end Cert.Take

end
-- ==== Proof.Domain.lean ====
/-
  The precondition read back: every atom type and every bond type is a row number of its table, and the four float
  arrays whose products the kernel reassociates hold real numbers.
-/
module

public import proofs.«01_k».proof.Pre_ranges_and_finite
public import proofs.«01_k».proof.Proof.Take
public import Idealize.ShloMosaic.Lib.Pointwise

@[expose] public section

noncomputable section

namespace Cert.Domain

open Idealize.ShloMosaic Cert.Pre_ranges_and_finite

/-- The side conditions that the predicate's operations state. -/
theorem facts : Facts where
  bcast_S_S10000 := by decide
  reducesTo_S10000_S_d0 := by decide
  h_S_ := by decide
  bcast_S_S320000 := by decide
  reducesTo_S320000_S_d0 := by decide
  bcast_S_S320000x16 := by decide
  reducesTo_S320000x16_S_d0_1 := by decide
  bcast_S_S320000x10 := by decide
  reducesTo_S320000x10_S_d0_1 := by decide
  bcast_S_S26x64 := by decide
  reducesTo_S26x64_S_d0_1 := by decide
  bcast_S_S64x256 := by decide
  reducesTo_S64x256_S_d0_1 := by decide

/-- A word between 0 and `n`, signed, is a number below `n`. -/
theorem row_of {n : ℕ} {w : BitVec 32} (h0 : 0 ≤ w.toInt) (hn : w.toInt < n) : ∃ r : Fin n, w = BitVec.ofNat 32 r := by
  have h : w.toInt = w.toNat := by rw [BitVec.toInt_eq_toNat_cond] at h0 ⊢; split at h0 <;> simp_all; omega
  exact ⟨⟨w.toNat, by omega⟩, BitVec.eq_of_toNat_eq (by show w.toNat = (BitVec.ofNat 32 w.toNat).toNat; rw [BitVec.toNat_ofNat]; omega)⟩

/-- An extended real whose absolute value is below `+∞` is a real number. -/
theorem real_of {x : Ideal .f32} (h : FloatOps.cmpf (F := Ideal) .olt (FloatOps.hostAbsf x) (FloatOps.ofBits (F := Ideal) .f32 0x7F800000#32) = 1#1) :
    ∃ r : ℝ, x = (r : EReal) := by
  have ht : FloatOps.ofBits (F := Ideal) .f32 0x7F800000#32 = (⊤ : EReal) := by
    show Ideal.ofBits .f32 _ = _
    simp [Ideal.ofBits, Ideal.ieee]
  rw [ht, Ideal.cmpf_def] at h
  induction x using EReal.rec with
  | bot => exact absurd h (by simp [Ideal.cmp, FloatOps.hostAbsf])
  | coe r => exact ⟨r, rfl⟩
  | top => exact absurd h (by simp [Ideal.cmp, FloatOps.hostAbsf])

variable [Facts] (a0 : FVec Ideal S10000x128 .f32) (a1 : FVec Ideal S320000x128 .f32) (a2 : IVec S2x320000 32) (a3 : IVec S10000 32)
  (a4 : IVec S320000 32) (a5 : FVec Ideal S320000x16 .f32) (a6 : FVec Ideal S320000 .f32) (a7 : FVec Ideal S320000x10 .f32)
  (a8 : FVec Ideal S26x64 .f32) (a9 : FVec Ideal S64x256 .f32) (a10 : FVec Ideal S10x256 .f32) (a11 : FVec Ideal S128x256 .f32)
  (a12 : FVec Ideal S256 .f32) (a13 : FVec Ideal S128x256 .f32) (a14 : FVec Ideal S256 .f32) (a15 : FVec Ideal S10x128 .f32)
  (a16 : FVec Ideal S55x128 .f32)

/-- WHAT THE PRECONDITION SAYS. -/
theorem of_pre (h : fn (F := Ideal) a0 a1 a2 a3 a4 a5 a6 a7 a8 a9 a10 a11 a12 a13 a14 a15 a16 = fun _ => 1#1) :
    (∃ atom : Fin 10000 → Fin 10, ∀ i, a3 (ix1 i) = BitVec.ofNat 32 (atom i))
    ∧ (∃ bond : Fin 320000 → Fin 55, ∀ i, a4 (ix1 i) = BitVec.ofNat 32 (bond i))
    ∧ (∃ sh : Fin 320000 → Fin 16 → ℝ, ∀ i k, a5 (ix2 i k) = (sh i k : EReal))
    ∧ (∃ oh : Fin 320000 → Fin 10 → ℝ, ∀ i k, a7 (ix2 i k) = (oh i k : EReal))
    ∧ (∃ wl : Fin 26 → Fin 64 → ℝ, ∀ i k, a8 (ix2 i k) = (wl i k : EReal))
    ∧ ∃ wb : Fin 64 → Fin 256 → ℝ, ∀ i k, a9 (ix2 i k) = (wb i k : EReal) := by
  have h' := congrFun h (fun a => a.elim0)
  dsimp only [fn, fn_part1] at h'
  simp only [andi, IntOp.andi_eq_one] at h'
  obtain ⟨⟨⟨⟨⟨h3, h4⟩, h5⟩, h7⟩, h8⟩, h9⟩ := h'
  haveI : Subsingleton S_.Idx := ⟨fun a b => funext fun q => q.elim0⟩
  have r3 := Host.reduce_andi_all _ _ _ _ _ h3
  have r4 := Host.reduce_andi_all _ _ _ _ _ h4
  have r5 := Host.reduce_andi_all _ _ _ _ _ h5
  have r7 := Host.reduce_andi_all _ _ _ _ _ h7
  have r8 := Host.reduce_andi_all _ _ _ _ _ h8
  have r9 := Host.reduce_andi_all _ _ _ _ _ h9
  refine ⟨?_, ?_, ?_, ?_, ?_, ?_⟩
  · have : ∀ i, ∃ r : Fin 10, a3 (ix1 i) = BitVec.ofNat 32 r := fun i => by
      obtain ⟨hl, hr⟩ := IntOp.andi_eq_one.1 (r3 (ix1 i))
      exact row_of (IntOp.cmpi_sge.1 hl) (IntOp.cmpi_slt.1 hr)
    exact ⟨fun i => (this i).choose, fun i => (this i).choose_spec⟩
  · have : ∀ i, ∃ r : Fin 55, a4 (ix1 i) = BitVec.ofNat 32 r := fun i => by
      obtain ⟨hl, hr⟩ := IntOp.andi_eq_one.1 (r4 (ix1 i))
      exact row_of (IntOp.cmpi_sge.1 hl) (IntOp.cmpi_slt.1 hr)
    exact ⟨fun i => (this i).choose, fun i => (this i).choose_spec⟩
  · exact ⟨fun i k => (real_of (r5 (ix2 i k))).choose, fun i k => (real_of (r5 (ix2 i k))).choose_spec⟩
  · exact ⟨fun i k => (real_of (r7 (ix2 i k))).choose, fun i k => (real_of (r7 (ix2 i k))).choose_spec⟩
  · exact ⟨fun i k => (real_of (r8 (ix2 i k))).choose, fun i k => (real_of (r8 (ix2 i k))).choose_spec⟩
  · exact ⟨fun i k => (real_of (r9 (ix2 i k))).choose, fun i k => (real_of (r9 (ix2 i k))).choose_spec⟩

end Cert.Domain

end
-- ==== Proof.Frames.lean ====
/-
  The reference's run: it ends, every argument unchanged and every counter at zero.
-/
module

public import proofs.«01_k».proof.Defs
public import proofs.«01_k».proof.Proof.Gen.ReferenceIdeal
public import proofs.«01_k».proof.Proof.Gen.ReferenceIdeal.Run
public import Idealize.ShloMosaic.Lib.Quiescent

@[expose] public section

set_option maxRecDepth 16384

noncomputable section

namespace Cert.Proof

open Idealize.ShloMosaic Idealize.ShloMosaic.TcCoe Idealize.SL.Sem

/-- The reference's frame: its program has no semaphore at all. -/
theorem reference_frame : Cert.quiescent_ReferenceIdeal := fun m g _ =>
  (θ_run (Cert.ReferenceIdeal.defs (F := Ideal)) _ _).mono
    (fun r h => ⟨fun c => (h c).2.2.2.2.2, sem_eq_zero_of_no_sems (by decide) r.2⟩) (Cert.ReferenceIdeal.Value.run m g)

/-- The same under the precondition, which the run does not need. -/
theorem reference_frame_pre [Cert.Pre_ranges_and_finite.Facts] : Cert.quiescent_ReferenceIdeal_pre_ranges_and_finite := fun m g _ =>
  (θ_run (Cert.ReferenceIdeal.defs (F := Ideal)) _ _).mono
    (fun r h => ⟨fun c => (h c).2.2.2.2.2, sem_eq_zero_of_no_sems (by decide) r.2⟩) (Cert.ReferenceIdeal.Value.run m g)

end Cert.Proof

end
-- ==== Proof.Run.lean ====
/-
  The run of the idealized kernel, with what its five result arrays hold. The generated frame says that the
  arguments end unchanged; here the same launch is read for the results too: each result array ends at the
  contents that the fold over @main's segments gives it (`Gen.W6`). The other modules say what those are.
-/
module

public import proofs.«01_k».proof.Proof.Gen.KernelIdeal
public import proofs.«01_k».proof.Proof.Gen.KernelIdeal.Frame

@[expose] public section

set_option maxRecDepth 16384

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every weakly fair execution ends, each result array holding its contents at the last segment boundary and
    each argument array as launched. -/
theorem run : θ_run defs (onTc (τ := τ) (main (F := F))) ⟨m, fun _ => 0, ρ⟩ (fun r => ∀ c : Dev nD,
      r.2.mem ((c.tc : Thread nD τ).loc main_v16_0) = W6 m ρ c (Proc.devRef .tc main_v16_0)
      ∧ r.2.mem ((c.tc : Thread nD τ).loc main_v21) = W6 m ρ c (Proc.devRef .tc main_v21)
      ∧ r.2.mem ((c.tc : Thread nD τ).loc main_v16_1) = W6 m ρ c (Proc.devRef .tc main_v16_1)
      ∧ r.2.mem ((c.tc : Thread nD τ).loc main_v19) = W6 m ρ c (Proc.devRef .tc main_v19)
      ∧ r.2.mem ((c.tc : Thread nD τ).loc main_v20) = W6 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => fun c =>
      ⟨h c _ (mem_uc main_v16_0 (by decide)),
       h c _ (mem_uc main_v21 (by decide)),
       h c _ (mem_uc main_v16_1 (by decide)),
       h c _ (mem_uc main_v19 (by decide)),
       h c _ (mem_uc main_v20 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c)⟩)

end Cert.KernelIdeal.Results

end
-- ==== Proof.Host.lean ====
/-
  What @main's own operations leave in the arrays that the kernels find: the 27 columns of the edge input, the
  padded and the fused weights, the index columns and the reshaped biases, each read at an index.
-/
module

public import proofs.«01_k».proof.Proof.Gen.KernelIdeal
public import proofs.«01_k».proof.Proof.Gen.KernelIdeal.Frame
public import Idealize.ShloMosaic.Lib.StableHlo.ReadAt
public import Idealize.ShloMosaic.Lib.Pointwise

@[expose] public section

set_option maxRecDepth 16384

noncomputable section

namespace Cert.KernelIdeal.Results

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The 27 columns of the edge input: the one-hot types, the harmonics, and the bond type as a float. -/
abbrev edgeCols (a4 : IVec S320000 32) (a5 : FVec Ideal S320000x16 .f32) (a7 : FVec Ideal S320000x10 .f32) : FVec Ideal S320000x27 .bf16 :=
  concatenate S320000x27 1 [⟨S320000x10, (truncf .bf16 a7 bitsLt_bf16_f32 : FVec Ideal S320000x10 .bf16)⟩,
    ⟨S320000x16, (truncf .bf16 a5 bitsLt_bf16_f32 : FVec Ideal S320000x16 .bf16)⟩,
    ⟨S320000x1, broadcastInDim S320000x1 ![0] bcast_S320000_S320000x1_0 (sitofp .bf16 a4 : FVec Ideal S320000 .bf16)⟩]
    concatenates_S320000x10_S320000x16_S320000x1_S320000x27_d1

/-- The latent weights with a 27th row of zeros. -/
abbrev padded (a8 : FVec Ideal S26x64 .f32) : FVec Ideal S27x64 .f32 :=
  concatenate S27x64 0 [⟨S26x64, a8⟩, ⟨S1x64, broadcastInDim S1x64 ![] bcast_S_S1x64 (constant S_ .f32 0x00000000#32)⟩]
    concatenates_S26x64_S1x64_S27x64_d0

/-- The latent weights and the base weights, multiplied before the kernel runs. -/
abbrev fused (a8 : FVec Ideal S26x64 .f32) (a9 : FVec Ideal S64x256 .f32) : FVec Ideal S27x256 .f32 :=
  Host.dotGeneral dot_S27x64_S64x256_S27x256_1_0_0_1_n_n none (padded a8) a9

/-- What the edge kernel finds as its rows: the one-hot, the spherical harmonics and the bond type, side by side. -/
theorem host_edge : @Eq (FVec Ideal S320000x27 .bf16) (V1 m ρ c main_v4)
    (edgeCols (m ((c.tc : Thread nD τ).loc main_arg4)) (m ((c.tc : Thread nD τ).loc main_arg5)) (m ((c.tc : Thread nD τ).loc main_arg7))) := by
  show StableHlo.after hostOps0 (W0 m ρ c) (Proc.devRef .tc main_v4) = _
  after_results
  all_goals rfl

/-- What the edge kernel finds as its latent weights: `W_latent` with a row of zeros below it. -/
theorem host_latent : @Eq (FVec Ideal S27x64 .f32) (V1 m ρ c main_v9) (padded (m ((c.tc : Thread nD τ).loc main_arg8))) := by
  show StableHlo.after hostOps0 (W0 m ρ c) (Proc.devRef .tc main_v9) = _
  after_results
  all_goals rfl

/-- What the edge kernel finds as its fused weights: the padded `W_latent` times `W_edge_base`. -/
theorem host_fused : @Eq (FVec Ideal S27x256 .f32) (V1 m ρ c main_v11)
    (fused (m ((c.tc : Thread nD τ).loc main_arg8)) (m ((c.tc : Thread nD τ).loc main_arg9))) := by
  show StableHlo.after hostOps0 (W0 m ρ c) (Proc.devRef .tc main_v11) = _
  after_results
  all_goals rfl

/-- What the edge kernel finds as its projection: `W_edge_proj`. -/
theorem host_edge_proj : @Eq (FVec Ideal S128x256 .f32) (V1 m ρ c main_v12) (m ((c.tc : Thread nD τ).loc main_arg13)) := by
  show StableHlo.after hostOps0 (W0 m ρ c) (Proc.devRef .tc main_v12) = _
  after_results
  all_goals rfl

/-- What the edge kernel finds as its table of masks: `mask_erme`. -/
theorem host_edge_mask : @Eq (FVec Ideal S55x128 .f32) (V1 m ρ c main_v13) (m ((c.tc : Thread nD τ).loc main_arg16)) := by
  show StableHlo.after hostOps0 (W0 m ρ c) (Proc.devRef .tc main_v13) = _
  after_results
  all_goals rfl

/-- What the edge kernel finds as its bias: `b_edge` as one row. -/
theorem host_edge_bias : @Eq (FVec Ideal S1x256 .f32) (V1 m ρ c main_v14)
    (shapeCast S1x256 (m ((c.tc : Thread nD τ).loc main_arg14) : FVec Ideal S256 .f32) shapeCasts_S256_S1x256) := by
  show StableHlo.after hostOps0 (W0 m ρ c) (Proc.devRef .tc main_v14) = _
  after_results
  all_goals rfl

/-- What the node kernel finds as its bias: `b_node` as one row. -/
theorem host_node_bias : @Eq (FVec Ideal S1x256 .f32) (V5 m ρ c main_v15)
    (shapeCast S1x256 (m ((c.tc : Thread nD τ).loc main_arg12) : FVec Ideal S256 .f32) shapeCasts_S256_S1x256) := by
  refine ((W5_of m ρ c main_v15 (by decide)).trans ((W4_of m ρ c main_v15 (by decide)).trans
    ((W3_of m ρ c main_v15 (by decide)).trans (W2_of m ρ c main_v15 (by decide))))).trans ?_
  show StableHlo.after hostOps0 (W0 m ρ c) (Proc.devRef .tc main_v15) = _
  after_results
  all_goals rfl

/-- What the node kernel finds as its types: the atom types as a column of numbers. -/
theorem host_atom : @Eq (FVec Ideal S10000x1 .f32) (V5 m ρ c main_v6)
    (broadcastInDim S10000x1 ![0] bcast_S10000_S10000x1_0 (sitofp .f32 (m ((c.tc : Thread nD τ).loc main_arg3)) : FVec Ideal S10000 .f32)) := by
  refine ((W5_of m ρ c main_v6 (by decide)).trans ((W4_of m ρ c main_v6 (by decide)).trans
    ((W3_of m ρ c main_v6 (by decide)).trans (W2_of m ρ c main_v6 (by decide))))).trans ?_
  show StableHlo.after hostOps0 (W0 m ρ c) (Proc.devRef .tc main_v6) = _
  after_results
  all_goals rfl

/-- What the cutoff kernel finds: the lengths of the edges as 2500 rows of 128. -/
theorem host_length : @Eq (FVec Ideal S2500x128 .f32) (V3 m ρ c main_v17)
    (shapeCast S2500x128 (m ((c.tc : Thread nD τ).loc main_arg6) : FVec Ideal S320000 .f32) shapeCasts_S320000_S2500x128) := by
  have h : W2 m ρ c (Proc.devRef .tc main_arg6) = m ((c.tc : Thread nD τ).loc main_arg6) := W2_args m ρ c main_arg6 (by decide)
  rw [← h]
  show StableHlo.after hostOps1 (W2 m ρ c) (Proc.devRef .tc main_v17) = _
  after_results
  all_goals rfl

/-- The first result, at the end: what the edge kernel leaves in its latent array. -/
theorem end_latent : W6 m ρ c (Proc.devRef .tc main_v16_0) = (dat0 (V1 m ρ) c).arrAt 7 cfg0.N :=
  (W6_of m ρ c main_v16_0 (by decide)).trans ((W5_of m ρ c main_v16_0 (by decide)).trans ((W4_of m ρ c main_v16_0 (by decide)).trans
    ((W3_of m ρ c main_v16_0 (by decide)).trans (W2_arr m ρ c 7))))

/-- The edge features, at the end. -/
theorem end_edge : W6 m ρ c (Proc.devRef .tc main_v16_1) = (dat0 (V1 m ρ) c).arrAt 8 cfg0.N :=
  (W6_of m ρ c main_v16_1 (by decide)).trans ((W5_of m ρ c main_v16_1 (by decide)).trans ((W4_of m ρ c main_v16_1 (by decide)).trans
    ((W3_of m ρ c main_v16_1 (by decide)).trans (W2_arr m ρ c 8))))

/-- The node features, at the end. -/
theorem end_node : W6 m ρ c (Proc.devRef .tc main_v21) = (dat2 (V5 m ρ) c).arrAt 6 cfg2.N := W6_arr m ρ c 6

/-- The cutoff coefficients, at the end: the cutoff kernel's first array as one row. -/
theorem end_cutoff : @Eq (FVec Ideal S320000 .f32) (W6 m ρ c (Proc.devRef .tc main_v19))
    (shapeCast S320000 ((dat1 (V3 m ρ) c).arrAt 1 cfg1.N : FVec Ideal S2500x128 .f32) shapeCasts_S2500x128_S320000) := by
  refine (W6_of m ρ c main_v19 (by decide)).trans ?_
  have h : W4 m ρ c (Proc.devRef .tc main_v18_0) = (dat1 (V3 m ρ) c).arrAt 1 cfg1.N := W4_arr m ρ c 1
  rw [← h]
  show StableHlo.after hostOps2 (W4 m ρ c) (Proc.devRef .tc main_v19) = _
  after_results
  all_goals rfl

/-- The numbers of the edges, at the end: the cutoff kernel's second array as one row. -/
theorem end_number : @Eq (IVec S320000 32) (W6 m ρ c (Proc.devRef .tc main_v20))
    (shapeCast S320000 ((dat1 (V3 m ρ) c).arrAt 2 cfg1.N : IVec S2500x128 32) shapeCasts_S2500x128_S320000) := by
  refine (W6_of m ρ c main_v20 (by decide)).trans ?_
  have h : W4 m ρ c (Proc.devRef .tc main_v18_1) = (dat1 (V3 m ρ) c).arrAt 2 cfg1.N := W4_arr m ρ c 2
  rw [← h]
  show StableHlo.after hostOps2 (W4 m ρ c) (Proc.devRef .tc main_v20) = _
  after_results
  all_goals rfl

end Cert.KernelIdeal.Results

end
-- ==== Proof.EdgeBlock.lean ====
/-
  What one grid point of the edge kernel computes, and so what its two result arrays hold after the run, as
  functions of the arrays that the kernel finds. The grid's blocks tile the arrays by rows, so that row `e` of a
  result depends on row `e` of the inputs alone.
-/
module

public import proofs.«01_k».proof.Proof.Gen.KernelIdeal
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Results

open Idealize.ShloMosaic Idealize.ShloMosaic.TcCoe Idealize.SL.Sem
open Idealize.ShloMosaic.Pipeline (Dat)
open Cert.KernelIdeal Cert.KernelIdeal.Gen

/-- The latent features: each row of the 27-wide edge input times the padded 27×64 latent weights. -/
def latentArr (x : FVec Ideal S320000x27 .bf16) (wl : FVec Ideal S27x64 .bf16) : FVec Ideal S320000x64 .f32 :=
  fun i => ∑ k : Fin 27, x (ix2 (i 0) k) * wl (ix2 k (i 1))

/-- The number that the kernel compares the lanes with, read off an index held as a float, against lane `b`:
    the float 1 or 0 that the comparison's bit converts to. -/
abbrev lane {φ : FTy} (z : Ideal φ) (b : ℕ) : Ideal .f32 :=
  FloatOps.sitofp .f32 (BitVec.setWidth 32 (IntOp.cmpi .eq (FloatOps.fptosi 32 z) (BitVec.ofNat 32 b)))

/-- The edge features: the row of the edge input times the fused 27×256 weights, plus the edge's hidden state
    masked by the row of the mask table that its bond type picks (lane 26 of the input) times the 128×256
    weights, plus the bias. -/
def edgeArr (x : FVec Ideal S320000x27 .bf16) (h0 : FVec Ideal S320000x128 .f32) (wc : FVec Ideal S27x256 .bf16)
    (wp : FVec Ideal S128x256 .bf16) (be : FVec Ideal S1x256 .f32) (me : FVec Ideal S55x128 .bf16) : FVec Ideal S320000x256 .f32 :=
  fun i => ∑ k : Fin 27, x (ix2 (i 0) k) * wc (ix2 k (i 1))
    + ∑ k : Fin 128, (h0 (ix2 (i 0) k) * ∑ b : Fin 55, lane (x (ix2 (i 0) 26)) b * me (ix2 b k)) * wp (ix2 k (i 1))
    + be (ix2 0 (i 1))

variable (V : (c : Dev nD) → (b : Ref sig .tc) → Buf (Elt Ideal) ((c : Thread nD τ).loc b))

/-- Every window of the edge kernel: the row blocks move with the grid point, the tables stay. -/
theorem edge_idx : ∀ t : Fin cfg0.N, win0_0.index t = ![(grid0.coords t 0).val, 0] ∧ win0_1.index t = ![(grid0.coords t 0).val, 0]
    ∧ win0_2.index t = ![0, 0] ∧ win0_3.index t = ![0, 0] ∧ win0_4.index t = ![0, 0] ∧ win0_5.index t = ![0, 0] ∧ win0_6.index t = ![0, 0]
    ∧ win0_7.index t = ![(grid0.coords t 0).val, 0] ∧ win0_8.index t = ![(grid0.coords t 0).val, 0] :=
  (by decide +kernel : ∀ t : Fin grid0.N, _)

/-- What the edge kernel leaves in its first result. -/
theorem latent_final (c : Dev nD) : (dat0 V c).arrAt 7 cfg0.N = latentArr (V c main_v4) (V c main_v9) := by
  refine (dat0 V c).arrAt_eq_of_covers 7 _ (by decide +kernel) fun t _ y => ?_
  blk_simp
  rw [after0_7]; frame_out
  pointwise [k0_pay2, k0_pay1, latentArr]
  blk_point [iblk0, edge_idx t]

/-- What the edge kernel leaves in its second result. -/
theorem edge_final (c : Dev nD) : (dat0 V c).arrAt 8 cfg0.N
    = edgeArr (V c main_v4) (V c main_arg1) (V c main_v11) (V c main_v12) (V c main_v14) (V c main_v13) := by
  refine (dat0 V c).arrAt_eq_of_covers 8 _ (by decide +kernel) fun t _ y => ?_
  blk_simp
  rw [after0_8]; frame_out
  pointwise [k0_pay3, k0_pay1, edgeArr, lane]
  blk_point [iblk0, edge_idx t]

end Cert.KernelIdeal.Results

end
-- ==== Proof.Latent.lean ====
/-
  The first equation: the latent features. The kernel multiplies 27 columns by weights whose 27th row is zero; the
  reference multiplies the first 26 columns by the weights themselves.
-/
module

public import proofs.«01_k».proof.Proof.Host
public import proofs.«01_k».proof.Proof.EdgeBlock
public import proofs.«01_k».proof.Proof.Gen.ReferenceIdeal

@[expose] public section

set_option maxRecDepth 16384

noncomputable section

namespace Cert.KernelIdeal.Results

open Idealize.ShloMosaic
open Cert.KernelIdeal Cert.KernelIdeal.Gen

variable (a4 : IVec S320000 32) (a5 : FVec Ideal S320000x16 .f32) (a7 : FVec Ideal S320000x10 .f32) (a8 : FVec Ideal S26x64 .f32)

/-- The 26 columns that the reference multiplies. -/
abbrev refCols : FVec Ideal Cert.ReferenceIdeal.S320000x26 .f32 :=
  concatenate Cert.ReferenceIdeal.S320000x26 1 [⟨S320000x10, a7⟩, ⟨S320000x16, a5⟩]
    Cert.ReferenceIdeal.Gen.concatenates_S320000x10_S320000x16_S320000x26_d1

/-- The kernel's first 26 columns are the reference's. -/
theorem cols_castSucc (i : Fin 320000) (k : Fin 26) : edgeCols a4 a5 a7 (ix2 i k.castSucc) = refCols a5 a7 (ix2 i k) := by
  pointwise [edgeCols, refCols]
  have := k.isLt
  by_cases h : k.val < 10
  · rw [dif_pos h, dif_pos (show k.castSucc.val < 10 from h)]; rfl
  · rw [dif_neg h, dif_neg (show ¬ k.castSucc.val < 10 from h), dif_pos (show k.castSucc.val - 10 < 16 by show k.val - 10 < 16; omega)]; rfl

/-- The kernel's last column is the bond type. -/
theorem cols_last (i : Fin 320000) : edgeCols a4 a5 a7 (ix2 i 26) = FloatOps.sitofp .bf16 (a4 (ix1 i)) := by
  pointwise [edgeCols]

/-- The first 26 rows of the padded weights are the weights. -/
theorem padded_castSucc (k : Fin 26) (j : Fin 64) : padded a8 (ix2 k.castSucc j) = a8 (ix2 k j) := by
  pointwise [padded]
  exact dif_pos (show k.castSucc.val < 26 from k.isLt)

/-- The last row of the padded weights is zero. -/
theorem padded_last (j : Fin 64) : padded a8 (ix2 26 j) = (0 : EReal) := by
  pointwise [padded]

/-- Where every column is a real number, so is the reference's. -/
theorem refCols_real {sh : Fin 320000 → Fin 16 → ℝ} {oh : Fin 320000 → Fin 10 → ℝ} (hs : ∀ i k, a5 (ix2 i k) = (sh i k : EReal))
    (ho : ∀ i k, a7 (ix2 i k) = (oh i k : EReal)) (i : Fin 320000) (k : Fin 26) : ∃ r : ℝ, refCols a5 a7 (ix2 i k) = (r : EReal) := by
  pointwise [refCols]
  split
  · exact ⟨_, ho _ _⟩
  · exact ⟨_, hs _ _⟩

/-- THE LATENT FEATURES: the kernel's product is the reference's. -/
theorem latent_eq : latentArr (edgeCols a4 a5 a7) (padded a8)
    = Host.dotGeneral Cert.ReferenceIdeal.dot_S320000x26_S26x64_S320000x64_1_0_0_1_n_n none (refCols a5 a7) a8 := by
  funext i
  obtain ⟨p, q, rfl⟩ : ∃ (p : Fin 320000) (q : Fin 64), i = ix2 p q := ⟨i 0, i 1, by funext a; fin_cases a <;> rfl⟩
  have hr : Host.dotGeneral Cert.ReferenceIdeal.dot_S320000x26_S26x64_S320000x64_1_0_0_1_n_n none (refCols a5 a7) a8 (ix2 p q)
      = ∑ k : Fin 26, (refCols a5 a7 (ix2 p k) * a8 (ix2 k q) : EReal) := by
    generalize refCols a5 a7 = X
    pointwise
  rw [hr]
  show ∑ k : Fin 27, (edgeCols a4 a5 a7 (ix2 p k) * padded a8 (ix2 k q) : EReal) = _
  rw [Fin.sum_univ_castSucc]
  have hl : (edgeCols a4 a5 a7 (ix2 p (Fin.last 26)) * padded a8 (ix2 (Fin.last 26) q) : EReal) = 0 := by
    rw [show Fin.last 26 = 26 from rfl, padded_last, mul_zero]
  rw [hl, add_zero]
  exact Finset.sum_congr rfl fun k _ => by rw [cols_castSucc, padded_castSucc]

end Cert.KernelIdeal.Results

end
-- ==== Proof.OneHot.lean ====
/-
  A table's row picked by a one-hot product. The kernels hold an index as a float, convert it back, compare it with
  every lane and multiply the 0/1 row that results with the table: where the index is a row number, the product is
  that row of the table, on the extended reals too (0 times an infinity is 0).
-/
module

public import proofs.«01_k».proof.Proof.EdgeBlock
public import proofs.«01_k».proof.Proof.Take

@[expose] public section

noncomputable section

namespace Cert.KernelIdeal.Results

open Idealize.ShloMosaic

/-- The float that a word below `2 ^ 31` converts to converts back to that word. -/
theorem fptosi_number {φ : FTy} {r : ℕ} (hr : r < 2 ^ 31) :
    (FloatOps.fptosi 32 ((FloatOps.sitofp φ (BitVec.ofNat 32 r)) : Ideal φ) : BitVec 32) = BitVec.ofNat 32 r := by
  show Ideal.fptosi 32 ((((BitVec.ofNat 32 r).toInt : ℝ) : EReal)) = _
  rw [Take.toInt_ofNat hr, Ideal.fptosi, Ideal.toIntClamped_coe, if_pos (by positivity), Int.cast_natCast, Int.floor_natCast]
  have : max (-((2 ^ (32 - 1) : ℕ) : ℤ)) (min (((2 ^ (32 - 1) : ℕ) : ℤ) - 1) (r : ℤ)) = r := by norm_num; omega
  rw [this, BitVec.ofInt_natCast]

/-- One lane of the one-hot row. -/
theorem lane_number {φ : FTy} {r b : ℕ} (hr : r < 2 ^ 31) (hb : b < 2 ^ 31) :
    lane ((FloatOps.sitofp φ (BitVec.ofNat 32 r)) : Ideal φ) b = if b = r then (1 : EReal) else 0 := by
  rw [lane, fptosi_number hr]
  by_cases h : b = r
  · subst h
    rw [if_pos rfl, show IntOp.cmpi .eq (BitVec.ofNat 32 b) (BitVec.ofNat 32 b) = 1#1 from by simp [IntOp.cmpi]]
    show (((BitVec.setWidth 32 1#1).toInt : ℝ) : EReal) = 1
    norm_num
  · have hne : BitVec.ofNat 32 r ≠ BitVec.ofNat 32 b := fun e => h (by
      have := congrArg BitVec.toInt e
      rw [Take.toInt_ofNat hr, Take.toInt_ofNat hb] at this
      exact_mod_cast this.symm)
    rw [if_neg h, show IntOp.cmpi .eq (BitVec.ofNat 32 r) (BitVec.ofNat 32 b) = 0#1 from by simp [IntOp.cmpi, beq_eq_false_iff_ne.2 hne]]
    show (((BitVec.setWidth 32 0#1).toInt : ℝ) : EReal) = 0
    norm_num

/-- THE ONE-HOT PRODUCT: the sum over the lanes is the table's entry at the index. -/
theorem pick {φ : FTy} {n : ℕ} (hn : n < 2 ^ 31) (w : BitVec 32) (r : Fin n) (hw : w = BitVec.ofNat 32 r) (T : Fin n → EReal) :
    ∑ b : Fin n, (lane ((FloatOps.sitofp φ w) : Ideal φ) b : EReal) * T b = T r := by
  subst hw
  rw [Finset.sum_eq_single r]
  · rw [lane_number (r.isLt.trans hn) (r.isLt.trans hn), if_pos rfl, one_mul]
  · intro b _ hb
    rw [lane_number (r.isLt.trans hn) (b.isLt.trans hn), if_neg (fun e => hb (Fin.ext e)), zero_mul]
  · exact fun h => absurd (Finset.mem_univ _) h

end Cert.KernelIdeal.Results

end
-- ==== Proof.Edge.lean ====
/-
  The second equation: the edge features. The kernel multiplies the columns by weights fused beforehand, where the
  reference multiplies twice: the reassociation holds for real numbers. The mask's row is picked by a one-hot
  product where the reference takes it by its number.
-/
module

public import proofs.«01_k».proof.Proof.Latent
public import proofs.«01_k».proof.Proof.OneHot

@[expose] public section

set_option maxRecDepth 16384

noncomputable section

namespace Cert.KernelIdeal.Results

open Idealize.ShloMosaic
open Cert.KernelIdeal Cert.KernelIdeal.Gen

variable (a1 : FVec Ideal S320000x128 .f32) (a4 : IVec S320000 32) (a5 : FVec Ideal S320000x16 .f32) (a7 : FVec Ideal S320000x10 .f32)
  (a8 : FVec Ideal S26x64 .f32) (a9 : FVec Ideal S64x256 .f32) (a13 : FVec Ideal S128x256 .f32) (a14 : FVec Ideal S256 .f32)
  (a16 : FVec Ideal S55x128 .f32) (src : FVec Ideal S320000x128 .f32)

/-- A sum of real numbers, as an extended real. -/
theorem real_sum {n : ℕ} (f : Fin n → ℝ) : ((∑ k, f k : ℝ) : EReal) = ∑ k, (f k : EReal) := by
  induction n with
  | zero => simp
  | succ n ih => rw [Fin.sum_univ_castSucc, Fin.sum_univ_castSucc, EReal.coe_add, ih]

/-- The reassociation of the three factors, over the real numbers that the extended reals hold. -/
theorem reassoc {m n : ℕ} (x : Fin m → ℝ) (w : Fin m → Fin n → ℝ) (y : Fin n → ℝ) :
    ∑ k, (x k : EReal) * ∑ l, (w k l : EReal) * (y l : EReal) = ∑ l, (∑ k, (x k : EReal) * (w k l : EReal)) * (y l : EReal) := by
  have h : ∑ k, x k * ∑ l, w k l * y l = ∑ l, (∑ k, x k * w k l) * y l := by
    simp only [Finset.mul_sum, Finset.sum_mul, ← mul_assoc]
    exact Finset.sum_comm
  simp only [← EReal.coe_mul, ← real_sum]
  rw [h]

/-- The fused weights at an index. -/
theorem fused_apply (k : Fin 27) (j : Fin 256) : fused a8 a9 (ix2 k j) = ∑ l : Fin 64, (padded a8 (ix2 k l) * a9 (ix2 l j) : EReal) := by
  unfold fused
  generalize padded a8 = X
  pointwise

/-- The base features: the product with the fused weights is the product with one and then the other. -/
theorem base_eq {sh : Fin 320000 → Fin 16 → ℝ} {oh : Fin 320000 → Fin 10 → ℝ} {wl : Fin 26 → Fin 64 → ℝ} {wb : Fin 64 → Fin 256 → ℝ}
    (hs : ∀ i k, a5 (ix2 i k) = (sh i k : EReal)) (ho : ∀ i k, a7 (ix2 i k) = (oh i k : EReal))
    (hl : ∀ i k, a8 (ix2 i k) = (wl i k : EReal)) (hb : ∀ i k, a9 (ix2 i k) = (wb i k : EReal)) (p : Fin 320000) (q : Fin 256) :
    ∑ k : Fin 27, (edgeCols a4 a5 a7 (ix2 p k) * fused a8 a9 (ix2 k q) : EReal)
      = ∑ l : Fin 64, ((∑ k : Fin 26, refCols a5 a7 (ix2 p k) * a8 (ix2 k l)) * a9 (ix2 l q) : EReal) := by
  rw [Fin.sum_univ_castSucc]
  have h0 : (edgeCols a4 a5 a7 (ix2 p (Fin.last 26)) * fused a8 a9 (ix2 (Fin.last 26) q) : EReal) = 0 := by
    rw [fused_apply, Finset.sum_eq_zero, mul_zero]
    intro l _
    rw [show Fin.last 26 = 26 from rfl, padded_last, zero_mul]
  rw [h0, add_zero]
  choose x hx using refCols_real a5 a7 hs ho p
  simp only [fused_apply, cols_castSucc, padded_castSucc, hx, hl, hb]
  exact reassoc x wl fun l => wb l q

/-- THE EDGE FEATURES: the kernel's array is the reference's, for a source whose rows are the edges' hidden states
    times their masks. -/
theorem edge_eq {sh : Fin 320000 → Fin 16 → ℝ} {oh : Fin 320000 → Fin 10 → ℝ} {wl : Fin 26 → Fin 64 → ℝ} {wb : Fin 64 → Fin 256 → ℝ}
    {bond : Fin 320000 → Fin 55} (hbond : ∀ i, a4 (ix1 i) = BitVec.ofNat 32 (bond i))
    (hs : ∀ i k, a5 (ix2 i k) = (sh i k : EReal)) (ho : ∀ i k, a7 (ix2 i k) = (oh i k : EReal))
    (hl : ∀ i k, a8 (ix2 i k) = (wl i k : EReal)) (hb : ∀ i k, a9 (ix2 i k) = (wb i k : EReal))
    (hsrc : ∀ i k, src (ix2 i k) = (a1 (ix2 i k) * a16 (ix2 (bond i) k) : EReal)) :
    edgeArr (edgeCols a4 a5 a7) a1 (fused a8 a9) a13 (shapeCast S1x256 a14 shapeCasts_S256_S1x256) a16
      = addf (Host.dotGeneral Cert.ReferenceIdeal.dot_S320000x64_S64x256_S320000x256_1_0_0_1_n_n none
          (Host.dotGeneral Cert.ReferenceIdeal.dot_S320000x26_S26x64_S320000x64_1_0_0_1_n_n none (refCols a5 a7) a8) a9)
        (addf (Host.dotGeneral Cert.ReferenceIdeal.dot_S320000x128_S128x256_S320000x256_1_0_0_1_n_n none src a13)
          (broadcastInDim S320000x256 ![0, 1] Cert.ReferenceIdeal.Gen.bcast_S1x256_S320000x256_0_1
            (broadcastInDim S1x256 ![1] Cert.ReferenceIdeal.Gen.bcast_S256_S1x256_1 a14))) := by
  funext i
  obtain ⟨p, q, rfl⟩ : ∃ (p : Fin 320000) (q : Fin 256), i = ix2 p q := ⟨i 0, i 1, by funext a; fin_cases a <;> rfl⟩
  have hbias : shapeCast S1x256 a14 shapeCasts_S256_S1x256 (ix2 0 q) = a14 (ix1 q) := by pointwise
  have hr : addf (Host.dotGeneral Cert.ReferenceIdeal.dot_S320000x64_S64x256_S320000x256_1_0_0_1_n_n none
          (Host.dotGeneral Cert.ReferenceIdeal.dot_S320000x26_S26x64_S320000x64_1_0_0_1_n_n none (refCols a5 a7) a8) a9)
        (addf (Host.dotGeneral Cert.ReferenceIdeal.dot_S320000x128_S128x256_S320000x256_1_0_0_1_n_n none src a13)
          (broadcastInDim S320000x256 ![0, 1] Cert.ReferenceIdeal.Gen.bcast_S1x256_S320000x256_0_1
            (broadcastInDim S1x256 ![1] Cert.ReferenceIdeal.Gen.bcast_S256_S1x256_1 a14))) (ix2 p q)
      = (∑ l : Fin 64, (∑ k : Fin 26, refCols a5 a7 (ix2 p k) * a8 (ix2 k l)) * a9 (ix2 l q)
        + (∑ k : Fin 128, src (ix2 p k) * a13 (ix2 k q) + a14 (ix1 q)) : EReal) := by
    generalize refCols a5 a7 = X
    pointwise
  rw [hr]
  show (∑ k : Fin 27, edgeCols a4 a5 a7 (ix2 p k) * fused a8 a9 (ix2 k q)
    + ∑ k : Fin 128, (a1 (ix2 p k) * ∑ b : Fin 55, lane (edgeCols a4 a5 a7 (ix2 p 26)) b * a16 (ix2 b k)) * a13 (ix2 k q)
    + shapeCast S1x256 a14 shapeCasts_S256_S1x256 (ix2 0 q) : EReal) = _
  rw [hbias, base_eq a4 a5 a7 a8 a9 hs ho hl hb, add_assoc]
  congr 2
  refine Finset.sum_congr rfl fun k _ => ?_
  rw [cols_last, hsrc]
  congr 2
  exact pick (by norm_num) _ (bond p) (hbond p) fun b => a16 (ix2 b k)

end Cert.KernelIdeal.Results

end
-- ==== Proof.NodeBlock.lean ====
/-
  What one grid point of the node kernel computes, and so what its result array holds after the run, as a function
  of the arrays that the kernel finds.
-/
module

public import proofs.«01_k».proof.Proof.Gen.KernelIdeal
public import proofs.«01_k».proof.Proof.Gen.KernelIdeal.Frame
public import proofs.«01_k».proof.Proof.EdgeBlock
public import Idealize.ShloMosaic.Lib.Pipeline.ValueKit
public import Idealize.ShloMosaic.Lib.Pointwise

@[expose] public section

set_option maxRecDepth 16384

noncomputable section

namespace Cert.KernelIdeal.Results

open Idealize.ShloMosaic Idealize.ShloMosaic.TcCoe Idealize.SL.Sem
open Idealize.ShloMosaic.Pipeline (Dat)
open Cert.KernelIdeal Cert.KernelIdeal.Gen

/-- The node features: the row of the embedding table that the atom type picks, plus the node's hidden state masked
    by the row of the mask table that it picks times the 128×256 weights, plus the bias. -/
def nodeArr (x : FVec Ideal S10000x1 .f32) (h0 : FVec Ideal S10000x128 .f32) (emb : FVec Ideal S10x256 .f32)
    (mn : FVec Ideal S10x128 .f32) (wn : FVec Ideal S128x256 .f32) (bn : FVec Ideal S1x256 .f32) : FVec Ideal S10000x256 .f32 :=
  fun i => ∑ b : Fin 10, lane (x (ix2 (i 0) 0)) b * emb (ix2 b (i 1))
    + ∑ k : Fin 128, (h0 (ix2 (i 0) k) * ∑ b : Fin 10, lane (x (ix2 (i 0) 0)) b * mn (ix2 b k)) * wn (ix2 k (i 1))
    + bn (ix2 0 (i 1))

variable (V : (c : Dev nD) → (b : Ref sig .tc) → Buf (Elt Ideal) ((c : Thread nD τ).loc b))

/-- Every window of the node kernel: the row blocks move with the grid point, the tables stay. -/
theorem node_idx : ∀ t : Fin cfg2.N, win2_0.index t = ![(grid2.coords t 0).val, 0] ∧ win2_1.index t = ![(grid2.coords t 0).val, 0]
    ∧ win2_2.index t = ![0, 0] ∧ win2_3.index t = ![0, 0] ∧ win2_4.index t = ![0, 0] ∧ win2_5.index t = ![0, 0]
    ∧ win2_6.index t = ![(grid2.coords t 0).val, 0] :=
  (by decide +kernel : ∀ t : Fin grid2.N, _)

/-- What the node kernel leaves in its result. -/
theorem node_final (c : Dev nD) : (dat2 V c).arrAt 6 cfg2.N
    = nodeArr (V c main_v6) (V c main_arg0) (V c main_arg10) (V c main_arg15) (V c main_arg11) (V c main_v15) := by
  refine (dat2 V c).arrAt_eq_of_covers 6 _ (by decide +kernel) fun t _ y => ?_
  blk_simp
  rw [after2_6]; frame_out
  pointwise [k2_pay1, nodeArr, lane]
  blk_point [iblk2, node_idx t]

end Cert.KernelIdeal.Results

end
-- ==== Proof.Node.lean ====
/-
  The third equation: the node features. The kernel picks the rows of the embedding and of the mask table by one-hot
  products where the reference takes them by their numbers, and adds the same three terms in another grouping.
-/
module

public import proofs.«01_k».proof.Proof.NodeBlock
public import proofs.«01_k».proof.Proof.OneHot
public import proofs.«01_k».proof.Proof.Gen.ReferenceIdeal

@[expose] public section

set_option maxRecDepth 16384

noncomputable section

namespace Cert.KernelIdeal.Results

open Idealize.ShloMosaic
open Cert.KernelIdeal Cert.KernelIdeal.Gen

variable (a0 : FVec Ideal S10000x128 .f32) (a3 : IVec S10000 32) (a10 : FVec Ideal S10x256 .f32) (a11 : FVec Ideal S128x256 .f32)
  (a12 : FVec Ideal S256 .f32) (a15 : FVec Ideal S10x128 .f32) (src : FVec Ideal S10000x128 .f32) (base : FVec Ideal S10000x256 .f32)

/-- The atom types as a column of floats. -/
abbrev atomCol : FVec Ideal S10000x1 .f32 := broadcastInDim S10000x1 ![0] bcast_S10000_S10000x1_0 (sitofp .f32 a3 : FVec Ideal S10000 .f32)

/-- THE NODE FEATURES: the kernel's array is the reference's, for a base whose rows are the embedding's and a source
    whose rows are the nodes' hidden states times their masks. -/
theorem node_eq {atom : Fin 10000 → Fin 10} (hatom : ∀ i, a3 (ix1 i) = BitVec.ofNat 32 (atom i))
    (hbase : ∀ i k, base (ix2 i k) = a10 (ix2 (atom i) k)) (hsrc : ∀ i k, src (ix2 i k) = (a0 (ix2 i k) * a15 (ix2 (atom i) k) : EReal)) :
    nodeArr (atomCol a3) a0 a10 a15 a11 (shapeCast S1x256 a12 shapeCasts_S256_S1x256)
      = addf base (addf (Host.dotGeneral Cert.ReferenceIdeal.dot_S10000x128_S128x256_S10000x256_1_0_0_1_n_n none src a11)
          (broadcastInDim S10000x256 ![0, 1] Cert.ReferenceIdeal.Gen.bcast_S1x256_S10000x256_0_1
            (broadcastInDim S1x256 ![1] Cert.ReferenceIdeal.Gen.bcast_S256_S1x256_1 a12))) := by
  funext i
  obtain ⟨p, q, rfl⟩ : ∃ (p : Fin 10000) (q : Fin 256), i = ix2 p q := ⟨i 0, i 1, by funext a; fin_cases a <;> rfl⟩
  have hbias : shapeCast S1x256 a12 shapeCasts_S256_S1x256 (ix2 0 q) = a12 (ix1 q) := by pointwise
  have hcol : atomCol a3 (ix2 p 0) = FloatOps.sitofp .f32 (a3 (ix1 p)) := by pointwise [atomCol]
  have hr : addf base (addf (Host.dotGeneral Cert.ReferenceIdeal.dot_S10000x128_S128x256_S10000x256_1_0_0_1_n_n none src a11)
          (broadcastInDim S10000x256 ![0, 1] Cert.ReferenceIdeal.Gen.bcast_S1x256_S10000x256_0_1
            (broadcastInDim S1x256 ![1] Cert.ReferenceIdeal.Gen.bcast_S256_S1x256_1 a12))) (ix2 p q)
      = (base (ix2 p q) + (∑ k : Fin 128, src (ix2 p k) * a11 (ix2 k q) + a12 (ix1 q)) : EReal) := by
    pointwise
  rw [hr]
  show (∑ b : Fin 10, lane (atomCol a3 (ix2 p 0)) b * a10 (ix2 b q)
    + ∑ k : Fin 128, (a0 (ix2 p k) * ∑ b : Fin 10, lane (atomCol a3 (ix2 p 0)) b * a15 (ix2 b k)) * a11 (ix2 k q)
    + shapeCast S1x256 a12 shapeCasts_S256_S1x256 (ix2 0 q) : EReal) = _
  have hpick : ∀ T : Fin 10 → EReal, ∑ b : Fin 10, (lane (atomCol a3 (ix2 p 0)) b * T b : EReal) = T (atom p) := fun T => by
    rw [hcol]; exact pick (by norm_num) _ (atom p) (hatom p) T
  rw [hbias, add_assoc, hbase]
  congr 1
  · exact hpick fun b => a10 (ix2 b q)
  · congr 1
    refine Finset.sum_congr rfl fun k _ => ?_
    rw [hsrc]
    congr 2
    exact hpick fun b => a15 (ix2 b k)

end Cert.KernelIdeal.Results

end
-- ==== Proof.CutoffBlock.lean ====
/-
  What the cutoff kernel computes, in one grid point, and so what its two result arrays hold after the run: the
  cosine cutoff of every edge length, and the number of every edge.
-/
module

public import proofs.«01_k».proof.Proof.Gen.KernelIdeal
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Results

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The cutoff kernel's grid has one point, whose blocks are the whole arrays. -/
theorem cutoff_idx : ∀ t : Fin cfg1.N, win1_0.index t = ![0, 0] ∧ win1_1.index t = ![0, 0] ∧ win1_2.index t = ![0, 0] :=
  (by decide +kernel : ∀ t : Fin grid1.N, _)

/-- What the cutoff kernel leaves in its first result. -/
theorem cutoff_final (c : Dev nD) : (dat1 V c).arrAt 1 cfg1.N = k1_pay1 (F := Ideal) (V c main_v17) := by
  refine (dat1 V c).arrAt_eq_of_covers 1 _ (by decide +kernel) fun t _ y => ?_
  blk_simp
  rw [after1_1]; frame_out
  pointwise [k1_pay1]
  blk_point [iblk1, cutoff_idx t]

/-- What the cutoff kernel leaves in its second result. -/
theorem number_final (c : Dev nD) : (dat1 V c).arrAt 2 cfg1.N = k1_pay2 := by
  refine (dat1 V c).arrAt_eq_of_covers 2 _ (by decide +kernel) fun t _ y => ?_
  blk_simp
  rw [after1_2]; frame_out
  pointwise [k1_pay2]
  blk_point [iblk1, cutoff_idx t]

end Cert.KernelIdeal.Results

end
-- ==== Proof.Cutoff.lean ====
/-
  The last two equations: the cutoff coefficients, where the kernel multiplies by the fifth that it names and the
  reference divides by 5, and the numbers of the edges. Both are arrays of 2500 rows of 128 in the kernel and one
  row in the reference.
-/
module

public import proofs.«01_k».proof.Proof.CutoffBlock
public import proofs.«01_k».proof.Proof.Gen.ReferenceIdeal

@[expose] public section

set_option maxRecDepth 16384

noncomputable section

namespace Cert.KernelIdeal.Results

open Idealize.ShloMosaic
open Cert.KernelIdeal Cert.KernelIdeal.Gen

/-- The reference's divisor. -/
theorem five : Ideal.ofBits .f32 0x40A00000#32 = ((5 : ℝ) : EReal) := by
  simp [Ideal.ofBits, Ideal.ieee, -EReal.coe_mul]; norm_num

/-- The kernel's named factor. -/
theorem fifth : Named.named (F := Ideal) Cert.KernelIdeal.κ "inv_rmax" (φ := .f32) 0x3E4CCCCD#32 = ((1 / 5 : ℝ) : EReal) :=
  IdealRules.named_const.ideal_named_scalar _ _ _ _ rfl

/-- The kernel's quotient is the reference's. -/
theorem quotient_eq (x : EReal) : x * ((1 / 5 : ℝ) : EReal) = Ideal.div x ((5 : ℝ) : EReal) :=
  (Ideal.div_coe (by norm_num : (5 : ℝ) ≠ 0) x).symm

/-- THE CUTOFF COEFFICIENTS: the kernel's array, as one row, is the reference's. -/
theorem cutoff_eq (a6 : FVec Ideal S320000 .f32) :
    shapeCast S320000 (k1_pay1 (F := Ideal) (shapeCast S2500x128 a6 shapeCasts_S320000_S2500x128)) shapeCasts_S2500x128_S320000
      = mulf (broadcastInDim S320000 ![] Cert.ReferenceIdeal.Gen.bcast_S_S320000 (constant S_ .f32 0x3F000000#32))
          (addf (Host.cos (mulf (broadcastInDim S320000 ![] Cert.ReferenceIdeal.Gen.bcast_S_S320000 (constant S_ .f32 0x40490FDB#32))
            (minimumf (broadcastInDim S320000 ![] Cert.ReferenceIdeal.Gen.bcast_S_S320000 (id (constant S_ .f32 0x3F800000#32)))
              (maximumf (broadcastInDim S320000 ![] Cert.ReferenceIdeal.Gen.bcast_S_S320000 (id (constant S_ .f32 0x00000000#32)))
                (Host.divf a6 (broadcastInDim S320000 ![] Cert.ReferenceIdeal.Gen.bcast_S_S320000 (constant S_ .f32 0x40A00000#32)))))))
            (broadcastInDim S320000 ![] Cert.ReferenceIdeal.Gen.bcast_S_S320000 (constant S_ .f32 0x3F800000#32))) := by
  funext i
  obtain ⟨p, rfl⟩ : ∃ p : Fin 320000, i = ix1 p := ⟨i 0, by funext a; fin_cases a; rfl⟩
  pointwise [k1_pay1, id]
  rw [fifth, five, quotient_eq]

/-- THE NUMBERS OF THE EDGES: the kernel's array, as one row, counts the edges. -/
theorem number_eq : shapeCast S320000 k1_pay2 shapeCasts_S2500x128_S320000 = (iotaInDim S320000 32 0 : IVec S320000 32) := by
  funext i
  obtain ⟨p, rfl⟩ : ∃ p : Fin 320000, i = ix1 p := ⟨i 0, by funext a; fin_cases a; rfl⟩
  pointwise [k1_pay2]
  show BitVec.ofNat 32 (p.val / 128) * BitVec.ofNat 32 128 + BitVec.ofNat 32 (p.val % 128) = _
  rw [← BitVec.ofNat_mul, ← BitVec.ofNat_add, Nat.div_add_mod']

end Cert.KernelIdeal.Results

end
-- ==== Proof.Values.lean ====
/-
  The five results of the idealized kernel, in terms of the arguments: what the kernels leave in the result arrays,
  with what @main's operations leave in the arrays that the kernels find.
-/
module

public import proofs.«01_k».proof.Proof.Host
public import proofs.«01_k».proof.Proof.EdgeBlock
public import proofs.«01_k».proof.Proof.Node
public import proofs.«01_k».proof.Proof.CutoffBlock

@[expose] public section

set_option maxRecDepth 16384

noncomputable section

namespace Cert.KernelIdeal.Results

open Idealize.ShloMosaic Idealize.ShloMosaic.TcCoe Idealize.SL.Sem
open Cert.KernelIdeal Cert.KernelIdeal.Gen

/-- Equal inputs give equal latent features. -/
theorem latentArr_congr {x x' : FVec Ideal S320000x27 .bf16} {w w' : FVec Ideal S27x64 .bf16} (hx : x = x') (hw : w = w') :
    latentArr x w = latentArr x' w' := by rw [hx, hw]

/-- Equal inputs give equal edge features. -/
theorem edgeArr_congr {x x' : FVec Ideal S320000x27 .bf16} {h0 h0' : FVec Ideal S320000x128 .f32} {wc wc' : FVec Ideal S27x256 .bf16}
    {wp wp' : FVec Ideal S128x256 .bf16} {be be' : FVec Ideal S1x256 .f32} {me me' : FVec Ideal S55x128 .bf16}
    (hx : x = x') (hh : h0 = h0') (hc : wc = wc') (hp : wp = wp') (hb : be = be') (hm : me = me') :
    edgeArr x h0 wc wp be me = edgeArr x' h0' wc' wp' be' me' := by rw [hx, hh, hc, hp, hb, hm]

/-- Equal inputs give equal node features. -/
theorem nodeArr_congr {x x' : FVec Ideal S10000x1 .f32} {h0 h0' : FVec Ideal S10000x128 .f32} {e e' : FVec Ideal S10x256 .f32}
    {mn mn' : FVec Ideal S10x128 .f32} {wn wn' : FVec Ideal S128x256 .f32} {bn bn' : FVec Ideal S1x256 .f32}
    (hx : x = x') (hh : h0 = h0') (he : e = e') (hm : mn = mn') (hw : wn = wn') (hb : bn = bn') :
    nodeArr x h0 e mn wn bn = nodeArr x' h0' e' mn' wn' bn' := by rw [hx, hh, he, hm, hw, hb]

variable (m : (ℓ : Loc nD τ sig) → Buf (Elt Ideal) ℓ) (ρ : Dev nD → PrngReg) (c : Dev nD)

/-- The latent features that the kernel ends with. -/
theorem latent_val : @Eq (FVec Ideal S320000x64 .f32) (W6 m ρ c (Proc.devRef .tc main_v16_0))
    (latentArr (edgeCols (m ((c.tc : Thread nD τ).loc main_arg4)) (m ((c.tc : Thread nD τ).loc main_arg5)) (m ((c.tc : Thread nD τ).loc main_arg7)))
      (padded (m ((c.tc : Thread nD τ).loc main_arg8)))) :=
  ((end_latent m ρ c).trans (latent_final (V1 m ρ) c)).trans (latentArr_congr (host_edge m ρ c) (host_latent m ρ c))

/-- The edge features that the kernel ends with. -/
theorem edge_val : @Eq (FVec Ideal S320000x256 .f32) (W6 m ρ c (Proc.devRef .tc main_v16_1))
    (edgeArr (edgeCols (m ((c.tc : Thread nD τ).loc main_arg4)) (m ((c.tc : Thread nD τ).loc main_arg5)) (m ((c.tc : Thread nD τ).loc main_arg7)))
      (m ((c.tc : Thread nD τ).loc main_arg1)) (fused (m ((c.tc : Thread nD τ).loc main_arg8)) (m ((c.tc : Thread nD τ).loc main_arg9)))
      (m ((c.tc : Thread nD τ).loc main_arg13)) (shapeCast S1x256 (m ((c.tc : Thread nD τ).loc main_arg14) : FVec Ideal S256 .f32) shapeCasts_S256_S1x256)
      (m ((c.tc : Thread nD τ).loc main_arg16))) :=
  ((end_edge m ρ c).trans (edge_final (V1 m ρ) c)).trans (edgeArr_congr (host_edge m ρ c) (W1_args m ρ c main_arg1 (by decide))
    (host_fused m ρ c) (host_edge_proj m ρ c) (host_edge_bias m ρ c) (host_edge_mask m ρ c))

/-- The node features that the kernel ends with. -/
theorem node_val : @Eq (FVec Ideal S10000x256 .f32) (W6 m ρ c (Proc.devRef .tc main_v21))
    (nodeArr (atomCol (m ((c.tc : Thread nD τ).loc main_arg3))) (m ((c.tc : Thread nD τ).loc main_arg0)) (m ((c.tc : Thread nD τ).loc main_arg10))
      (m ((c.tc : Thread nD τ).loc main_arg15)) (m ((c.tc : Thread nD τ).loc main_arg11))
      (shapeCast S1x256 (m ((c.tc : Thread nD τ).loc main_arg12) : FVec Ideal S256 .f32) shapeCasts_S256_S1x256)) :=
  ((end_node m ρ c).trans (node_final (V5 m ρ) c)).trans (nodeArr_congr (host_atom m ρ c) (W5_args m ρ c main_arg0 (by decide))
    (W5_args m ρ c main_arg10 (by decide)) (W5_args m ρ c main_arg15 (by decide)) (W5_args m ρ c main_arg11 (by decide)) (host_node_bias m ρ c))

/-- An array of 2500 rows as one row: equal arrays give equal rows. -/
theorem flat_congr {α : Type} {x y : S2500x128.Idx → α} (h : x = y) :
    shapeCast S320000 x shapeCasts_S2500x128_S320000 = shapeCast S320000 y shapeCasts_S2500x128_S320000 := by rw [h]

/-- The cutoff coefficients that the kernel ends with. -/
theorem cutoff_val : @Eq (FVec Ideal S320000 .f32) (W6 m ρ c (Proc.devRef .tc main_v19))
    (shapeCast S320000 (k1_pay1 (F := Ideal) (shapeCast S2500x128 (m ((c.tc : Thread nD τ).loc main_arg6) : FVec Ideal S320000 .f32)
      shapeCasts_S320000_S2500x128)) shapeCasts_S2500x128_S320000) :=
  (end_cutoff m ρ c).trans (flat_congr ((cutoff_final (V3 m ρ) c).trans (congrArg (k1_pay1 (F := Ideal)) (host_length m ρ c))))

/-- The numbers of the edges that the kernel ends with. -/
theorem number_val : @Eq (IVec S320000 32) (W6 m ρ c (Proc.devRef .tc main_v20)) (shapeCast S320000 k1_pay2 shapeCasts_S2500x128_S320000) :=
  (end_number m ρ c).trans (flat_congr (number_final (V3 m ρ) c))

end Cert.KernelIdeal.Results

end
-- ==== Proof.Algebraic.lean ====
/-
  The two runs put side by side: the kernel's five results are the reference's.
-/
module

public import proofs.«01_k».proof.Defs
public import proofs.«01_k».proof.Proof.Gen.ReferenceIdeal.Run
public import proofs.«01_k».proof.Proof.Run
public import proofs.«01_k».proof.Proof.Domain
public import proofs.«01_k».proof.Proof.Edge
public import proofs.«01_k».proof.Proof.Node
public import proofs.«01_k».proof.Proof.Cutoff
public import proofs.«01_k».proof.Proof.Values

@[expose] public section

set_option maxRecDepth 16384

noncomputable section

namespace Cert.Proof

open Idealize.ShloMosaic Idealize.ShloMosaic.TcCoe Idealize.SL.Sem
open Cert.KernelIdeal.Results

/-- On the extended reals, within the precondition, the kernel's five results are the reference's. -/
theorem algebraic [Cert.Pre_ranges_and_finite.Facts] : Cert.algebraic_KernelIdeal_ReferenceIdeal_pre_ranges_and_finite := by
  intro m g m' g' hpre hagree
  refine ⟨_, _, _, _, _, Cert.KernelIdeal.Results.run m g, ?_⟩
  refine (θ_run _ _ _).mono (fun r h c => ?_) (Cert.ReferenceIdeal.Value.run m' g')
  obtain ⟨⟨atom, hatom⟩, ⟨bond, hbond⟩, ⟨sh, hs⟩, ⟨oh, ho⟩, ⟨wl, hl⟩, wb, hb⟩ := Cert.Domain.of_pre _ _ _ _ _ _ _ _ _ _ _ _ _ _ _ _ _ (hpre c)
  obtain ⟨e0, e1, e2, e3, e4, e5, e6, e7, e8, e9, e10, e11, e12, e13, e14, e15, e16⟩ := hagree c
  obtain ⟨h0, h1, h2, h3, h4, hargs⟩ := h c
  refine ⟨h0.trans ?_, h1.trans ?_, h2.trans ?_, h3.trans ?_, h4.trans ?_, hargs⟩ <;> clear h0 h1 h2 h3 h4 hargs h
  · rw [e5, e7, e8]
    exact (latent_eq _ _ _ _).symm.trans (latent_val m g c).symm
  · rw [e0, e3, e10, e11, e12, e15]
    refine (node_eq _ _ _ _ _ _ _ _ hatom ?_ ?_).symm.trans (node_val m g c).symm
    · intro i k
      exact Cert.Take.apply _ rfl rfl rfl rfl rfl _ _ _ _ _ _ _ _ _ _ _ _ atom hatom (by norm_num) rfl i k _
    · intro i k
      refine Cert.Take.times_apply _ _ _ _ ?_
      exact Cert.Take.apply _ rfl rfl rfl rfl rfl _ _ _ _ _ _ _ _ _ _ _ _ atom hatom (by norm_num) rfl i k _
  · rw [e1, e4, e5, e7, e8, e9, e13, e14, e16]
    refine (edge_eq _ _ _ _ _ _ _ _ _ _ hbond hs ho hl hb ?_).symm.trans (edge_val m g c).symm
    intro i k
    refine (Cert.Take.apply _ rfl rfl rfl rfl rfl _ _ _ _ _ _ _ _ _ _ _ _ (fun i => i) (fun _ => rfl) (by norm_num) rfl i k _).trans ?_
    refine Cert.Take.times_apply _ _ _ _ ?_
    exact Cert.Take.apply _ rfl rfl rfl rfl rfl _ _ _ _ _ _ _ _ _ _ _ _ bond hbond (by norm_num) rfl i k _
  · rw [e6]
    exact (cutoff_eq _).symm.trans (cutoff_val m g c).symm
  · exact number_eq.symm.trans (number_val m g c).symm

end Cert.Proof

end
-- ==== Proof.lean ====
/-
  The proof of `Cert.Claim`: the three runs end with every counter at zero and every argument unchanged, the
  idealized kernel is the kernel with one constant named, and each of its five results is the reference's. The
  modules under Proof/ say what each result holds; here they are put together.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Domain
public import proofs.«01_k».proof.Proof.Frames
public import proofs.«01_k».proof.Proof.Algebraic

@[expose] public section

set_option maxRecDepth 16384

noncomputable section

namespace Cert.Proof

open Idealize.ShloMosaic Idealize.ShloMosaic.TcCoe Idealize.SL.Sem

/-- The side conditions that the precondition states. -/
instance : Cert.Pre_ranges_and_finite.Facts := Cert.Domain.facts

/-- Everything that the certificate claims. -/
theorem claim : Cert.Claim := ⟨Cert.Kernel.Gen.facts, Cert.KernelIdeal.Gen.facts, Cert.ReferenceIdeal.Gen.facts, Cert.Domain.facts,
  fun m ρ _ => Cert.Kernel.Gen.frame m ρ, fun m ρ _ => Cert.KernelIdeal.Gen.frame m ρ, fun m ρ _ => Cert.KernelIdeal.Gen.frame m ρ,
  reference_frame, reference_frame_pre,
  IdealRules.named_const.statement Cert.KernelIdeal.κ "inv_rmax" .f32 0x3E4CCCCD#32 ((1 / 5 : ℝ) : EReal) rfl, algebraic⟩

end Cert.Proof

end
